-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_as_drawn [hPre_masks_as_drawn : Cert.Pre_masks_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_masks_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_as_drawn [hPre_masks_as_drawn : Cert.Pre_masks_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_masks_as_drawn [hKernelIdeal : Cert.KernelIdeal.Facts] [hPre_masks_as_drawn : Cert.Pre_masks_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_masks_as_drawn [hReferenceIdeal : Cert.ReferenceIdeal.Facts] [hPre_masks_as_drawn : Cert.Pre_masks_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_masks_as_drawn [hKernelIdeal : Cert.KernelIdeal.Facts] [hReferenceIdeal : Cert.ReferenceIdeal.Facts] [hPre_masks_as_drawn : Cert.Pre_masks_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_masks_as_drawn : Cert.Pre_masks_as_drawn.Facts),
    quiescent_Kernel (hKernel := hKernel)
    ∧ quiescent_KernelIdeal (hKernelIdeal := hKernelIdeal)
    ∧ quiescent_KernelIdeal_pre_masks_as_drawn (hKernelIdeal := hKernelIdeal) (hPre_masks_as_drawn := hPre_masks_as_drawn)
    ∧ quiescent_ReferenceIdeal (hReferenceIdeal := hReferenceIdeal)
    ∧ quiescent_ReferenceIdeal_pre_masks_as_drawn (hReferenceIdeal := hReferenceIdeal) (hPre_masks_as_drawn := hPre_masks_as_drawn)
    ∧ preserves_Kernel_KernelIdeal
    ∧ algebraic_KernelIdeal_ReferenceIdeal_pre_masks_as_drawn (hKernelIdeal := hKernelIdeal) (hReferenceIdeal := hReferenceIdeal) (hPre_masks_as_drawn := hPre_masks_as_drawn)
-- ==== Pre_masks_as_drawn.lean ====
abbrev S4x32x512x512 : Shape := ⟨4, ![4, 32, 512, 512]⟩
abbrev S4x3x512x512 : Shape := ⟨4, ![4, 3, 512, 512]⟩
abbrev S_ : Shape := ⟨0, ![]⟩
abbrev S4x512x512 : Shape := ⟨3, ![4, 512, 512]⟩
abbrev S4x1x512x512 : Shape := ⟨4, ![4, 1, 512, 512]⟩

class Facts : Prop where
  bcast_S_S4x512x512 : S_.BroadcastsInDim S4x512x512 (![] : Fin 0 → Fin S4x512x512.rank)
  slices_S4x3x512x512_S4x1x512x512_0_0_0_0 : S4x3x512x512.Slices ![0, 0, 0, 0] S4x1x512x512
  shapeCasts_S4x1x512x512_S4x512x512 : S4x1x512x512.ShapeCasts S4x512x512
  slices_S4x3x512x512_S4x1x512x512_0_1_0_0 : S4x3x512x512.Slices ![0, 1, 0, 0] S4x1x512x512

variable [Facts]

def fn {F : FTy → Type} [FloatOps F] (main_arg0 : FVec F S4x32x512x512 .f32) (main_arg1 : IVec S4x3x512x512 32) (main_arg2 : IVec S_ 32) : IVec S4x512x512 1 :=
  let main_v0 : IVec S4x512x512 32 := iotaInDim S4x512x512 32 1
  let main_c : IVec S_ 32 := constantI S_ 32 16#32
  let main_v1 : IVec S4x512x512 32 := broadcastInDim S4x512x512 ![] bcast_S_S4x512x512 main_c
  let main_v2 : IVec S4x512x512 32 := Host.divsi main_v0 main_v1
  let main_c_0 : IVec S_ 32 := constantI S_ 32 4#32
  let main_v3 : IVec S4x512x512 32 := broadcastInDim S4x512x512 ![] bcast_S_S4x512x512 main_c_0
  let main_v4 : IVec S4x512x512 32 := Host.divsi main_v2 main_v3
  let main_v5 : IVec S4x1x512x512 32 := (extractStridedSlice S4x1x512x512 ![0, 0, 0, 0] · slices_S4x3x512x512_S4x1x512x512_0_0_0_0) main_arg1
  let main_v6 : IVec S4x512x512 32 := shapeCast S4x512x512 main_v5 shapeCasts_S4x1x512x512_S4x512x512
  let main_v7 : IVec S4x512x512 1 := cmpi .eq main_v6 main_v2
  let main_v8 : IVec S4x1x512x512 32 := (extractStridedSlice S4x1x512x512 ![0, 1, 0, 0] · slices_S4x3x512x512_S4x1x512x512_0_1_0_0) main_arg1
  let main_v9 : IVec S4x512x512 32 := shapeCast S4x512x512 main_v8 shapeCasts_S4x1x512x512_S4x512x512
  let main_v10 : IVec S4x512x512 1 := cmpi .eq main_v9 main_v4
  let main_v11 : IVec S4x512x512 1 := andi main_v7 main_v10
  main_v11
-- ==== Kernel.lean ====
abbrev S4x32x512x512 : Shape := ⟨4, ![4, 32, 512, 512]⟩
abbrev S4x3x512x512 : Shape := ⟨4, ![4, 3, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x8x1x128 : Shape := ⟨4, ![4, 8, 1, 128]⟩
abbrev S1x32x64x512 : Shape := ⟨4, ![1, 32, 64, 512]⟩
abbrev S1x1x1x128 : Shape := ⟨4, ![1, 1, 1, 128]⟩
abbrev S32x64x512 : Shape := ⟨3, ![32, 64, 512]⟩
abbrev S64x512 : Shape := ⟨2, ![64, 512]⟩
abbrev S1x64x512 : Shape := ⟨3, ![1, 64, 512]⟩
abbrev S1x1x64x512 : Shape := ⟨4, ![1, 1, 64, 512]⟩
abbrev S1 : Shape := ⟨1, ![1]⟩
abbrev S1x1x1x1 : Shape := ⟨4, ![1, 1, 1, 1]⟩
abbrev S32x48x512 : Shape := ⟨3, ![32, 48, 512]⟩
abbrev S32x16x512 : Shape := ⟨3, ![32, 16, 512]⟩
abbrev S1x32x16x512 : Shape := ⟨4, ![1, 32, 16, 512]⟩
abbrev S32x64 : Shape := ⟨2, ![32, 64]⟩
abbrev S1x32x64 : Shape := ⟨3, ![1, 32, 64]⟩
abbrev S1x1x1 : Shape := ⟨3, ![1, 1, 1]⟩
abbrev S32x16 : Shape := ⟨2, ![32, 16]⟩
abbrev S32 : Shape := ⟨1, ![32]⟩
abbrev S32x1 : Shape := ⟨2, ![32, 1]⟩
abbrev S1x32x1 : Shape := ⟨3, ![1, 32, 1]⟩
abbrev S1x128 : Shape := ⟨2, ![1, 128]⟩
abbrev S4x8x1x1 : Shape := ⟨4, ![4, 8, 1, 1]⟩
abbrev S4x8 : Shape := ⟨2, ![4, 8]⟩
abbrev S8 : Shape := ⟨1, ![8]⟩
abbrev S7 : Shape := ⟨1, ![7]⟩

abbrev nBuf : Space → Nat
  | .hbm => 145
  | .vmem => 6
  | .smem => 0
  | _ => 0

abbrev hbmTy0_0 (i : Nat) : BufTy := match i % 128 with
  | 0 => ⟨S4x32x512x512, .f32⟩
  | 1 => ⟨S4x3x512x512, .i32⟩
  | 2 => ⟨S_, .i32⟩
  | 3 => ⟨S512, .i32⟩
  | 4 => ⟨S512x1, .i32⟩
  | 5 => ⟨S1x512, .i32⟩
  | 6 => ⟨S512x512, .i32⟩
  | 7 => ⟨S512x512, .i32⟩
  | 8 => ⟨S512x512, .i1⟩
  | 9 => ⟨S512x512, .f32⟩
  | 10 => ⟨S64, .i32⟩
  | 11 => ⟨S64x1, .i32⟩
  | 12 => ⟨S_, .i32⟩
  | 13 => ⟨S_, .i32⟩
  | 14 => ⟨S64x1, .i32⟩
  | 15 => ⟨S64x1, .i32⟩
  | 16 => ⟨S64x1, .i32⟩
  | 17 => ⟨S_, .i32⟩
  | 18 => ⟨S64x1, .i32⟩
  | 19 => ⟨S64x1, .i1⟩
  | 20 => ⟨S64x1, .i32⟩
  | 21 => ⟨S64x1, .i32⟩
  | 22 => ⟨S_, .i32⟩
  | 23 => ⟨S64x1, .i32⟩
  | 24 => ⟨S64x1, .i1⟩
  | 25 => ⟨S64x1, .i1⟩
  | 26 => ⟨S_, .i32⟩
  | 27 => ⟨S64x1, .i32⟩
  | 28 => ⟨S64x1, .i32⟩
  | 29 => ⟨S64x1, .i32⟩
  | 30 => ⟨S1x64, .i32⟩
  | 31 => ⟨S_, .i32⟩
  | 32 => ⟨S_, .i32⟩
  | 33 => ⟨S1x64, .i32⟩
  | 34 => ⟨S1x64, .i32⟩
  | 35 => ⟨S1x64, .i32⟩
  | 36 => ⟨S_, .i32⟩
  | 37 => ⟨S1x64, .i32⟩
  | 38 => ⟨S1x64, .i1⟩
  | 39 => ⟨S1x64, .i32⟩
  | 40 => ⟨S1x64, .i32⟩
  | 41 => ⟨S_, .i32⟩
  | 42 => ⟨S1x64, .i32⟩
  | 43 => ⟨S1x64, .i1⟩
  | 44 => ⟨S1x64, .i1⟩
  | 45 => ⟨S_, .i32⟩
  | 46 => ⟨S1x64, .i32⟩
  | 47 => ⟨S1x64, .i32⟩
  | 48 => ⟨S1x64, .i32⟩
  | 49 => ⟨S64x64, .i32⟩
  | 50 => ⟨S64x64, .i32⟩
  | 51 => ⟨S64x64, .i1⟩
  | 52 => ⟨S64x1, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S64x1, .i32⟩
  | 60 => ⟨S64x1, .i32⟩
  | 61 => ⟨S_, .i32⟩
  | 62 => ⟨S64x1, .i32⟩
  | 63 => ⟨S64x1, .i1⟩
  | 64 => ⟨S_, .i32⟩
  | 65 => ⟨S64x1, .i32⟩
  | 66 => ⟨S64x1, .i1⟩
  | 67 => ⟨S_, .i32⟩
  | 68 => ⟨S_, .i1⟩
  | 69 => ⟨S64x1, .i1⟩
  | 70 => ⟨S64x1, .i1⟩
  | 71 => ⟨S64x1, .i1⟩
  | 72 => ⟨S64x1, .i32⟩
  | 73 => ⟨S64x1, .i32⟩
  | 74 => ⟨S64x1, .i32⟩
  | 75 => ⟨S1x64, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S1x64, .i32⟩
  | 83 => ⟨S1x64, .i32⟩
  | 84 => ⟨S_, .i32⟩
  | 85 => ⟨S1x64, .i32⟩
  | 86 => ⟨S1x64, .i1⟩
  | 87 => ⟨S_, .i32⟩
  | 88 => ⟨S1x64, .i32⟩
  | 89 => ⟨S1x64, .i1⟩
  | 90 => ⟨S_, .i32⟩
  | 91 => ⟨S_, .i1⟩
  | 92 => ⟨S1x64, .i1⟩
  | 93 => ⟨S1x64, .i1⟩
  | 94 => ⟨S1x64, .i1⟩
  | 95 => ⟨S1x64, .i32⟩
  | 96 => ⟨S1x64, .i32⟩
  | 97 => ⟨S1x64, .i32⟩
  | 98 => ⟨S64x64, .i32⟩
  | 99 => ⟨S64x64, .i32⟩
  | 100 => ⟨S64x64, .i1⟩
  | 101 => ⟨S64x64, .i1⟩
  | 102 => ⟨S64x64, .f32⟩
  | 103 => ⟨S4x8x1x128, .f32⟩
  | 104 => ⟨S4x8x1x1, .f32⟩
  | 105 => ⟨S4x8, .f32⟩
  | 106 => ⟨S4x8x1x1, .f32⟩
  | 107 => ⟨S4x8, .f32⟩
  | 108 => ⟨S4x8x1x1, .f32⟩
  | 109 => ⟨S4x8, .f32⟩
  | 110 => ⟨S4x8x1x1, .f32⟩
  | 111 => ⟨S4x8, .f32⟩
  | 112 => ⟨S_, .f32⟩
  | 113 => ⟨S8, .f32⟩
  | 114 => ⟨S_, .f32⟩
  | 115 => ⟨S8, .f32⟩
  | 116 => ⟨S8, .f32⟩
  | 117 => ⟨S7, .f32⟩
  | 118 => ⟨S_, .f32⟩
  | 119 => ⟨S_, .f32⟩
  | 120 => ⟨S_, .f32⟩
  | 121 => ⟨S_, .f32⟩
  | 122 => ⟨S4x8, .f32⟩
  | 123 => ⟨S_, .f32⟩
  | 124 => ⟨S4x8, .f32⟩
  | 125 => ⟨S4x8, .f32⟩
  | 126 => ⟨S_, .f32⟩
  | 127 => ⟨S4x8, .f32⟩
  | _ => ⟨S4x32x512x512, .f32⟩

abbrev hbmTy0_1 (i : Nat) : BufTy := match i % 128 with
  | 0 => ⟨S4x8, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | _ => ⟨S4x32x512x512, .f32⟩

abbrev hbmTy (i : Nat) : BufTy := match i / 128 with
  | 0 => hbmTy0_0 i
  | 1 => hbmTy0_1 i
  | _ => ⟨S4x32x512x512, .f32⟩

abbrev bufTy : (tb : Table) → Fin (tcTables nBuf tb) → BufTy
  | .hbm, ⟨i, _⟩ => hbmTy i
  | .local _ .vmem, ⟨0, _⟩ => ⟨S1x32x64x512, .f32⟩
  | .local _ .vmem, ⟨1, _⟩ => ⟨S1x32x64x512, .f32⟩
  | .local _ .vmem, ⟨2, _⟩ => ⟨S512x512, .f32⟩
  | .local _ .vmem, ⟨3, _⟩ => ⟨S64x64, .f32⟩
  | .local _ .vmem, ⟨4, _⟩ => ⟨S1x1x1x128, .f32⟩
  | .local _ .vmem, ⟨5, _⟩ => ⟨S1x1x1x128, .f32⟩
  | _, _ => ⟨S4x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v16 : Ref sig .tc := ⟨.hbm, 74, rfl⟩
abbrev main_v17 : Ref sig .tc := ⟨.hbm, 75, rfl⟩
abbrev main_c_2 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_cst : Ref sig .tc := ⟨.hbm, 112, rfl⟩
abbrev main_v33 : Ref sig .tc := ⟨.hbm, 113, rfl⟩
abbrev main_cst_3 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_cst_4 : Ref sig .tc := ⟨.hbm, 118, rfl⟩
abbrev main_v37 : Ref sig .tc := ⟨.hbm, 119, rfl⟩
abbrev main_cst_5 : Ref sig .tc := ⟨.hbm, 120, rfl⟩
abbrev main_v38 : Ref sig .tc := ⟨.hbm, 121, rfl⟩
abbrev main_v39 : Ref sig .tc := ⟨.hbm, 122, rfl⟩
abbrev main_cst_6 : Ref sig .tc := ⟨.hbm, 123, rfl⟩
abbrev main_v40 : Ref sig .tc := ⟨.hbm, 124, rfl⟩
abbrev main_v41 : Ref sig .tc := ⟨.hbm, 125, rfl⟩
abbrev main_cst_7 : Ref sig .tc := ⟨.hbm, 126, rfl⟩
abbrev main_v42 : Ref sig .tc := ⟨.hbm, 127, rfl⟩
abbrev main_v43 : Ref sig .tc := ⟨.hbm, 128, rfl⟩
abbrev main_cst_8 : Ref sig .tc := ⟨.hbm, 129, rfl⟩
abbrev main_v44 : Ref sig .tc := ⟨.hbm, 130, rfl⟩
abbrev main_cst_9 : Ref sig .tc := ⟨.hbm, 131, rfl⟩
abbrev main_v45 : Ref sig .tc := ⟨.hbm, 132, rfl⟩
abbrev main_cst_10 : Ref sig .tc := ⟨.hbm, 133, rfl⟩
abbrev main_v46 : Ref sig .tc := ⟨.hbm, 134, rfl⟩
abbrev main_cst_11 : Ref sig .tc := ⟨.hbm, 135, rfl⟩
abbrev main_v47 : Ref sig .tc := ⟨.hbm, 136, rfl⟩
abbrev main_v48 : Ref sig .tc := ⟨.hbm, 137, rfl⟩
abbrev main_cst_12 : Ref sig .tc := ⟨.hbm, 138, rfl⟩
abbrev main_v49 : Ref sig .tc := ⟨.hbm, 139, rfl⟩
abbrev main_cst_13 : Ref sig .tc := ⟨.hbm, 140, rfl⟩
abbrev main_v50 : Ref sig .tc := ⟨.hbm, 141, rfl⟩
abbrev main_cst_14 : Ref sig .tc := ⟨.hbm, 142, rfl⟩
abbrev main_v51 : Ref sig .tc := ⟨.hbm, 143, rfl⟩
abbrev main_v52 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x32x512x512 : Shape := ⟨4, ![4, 32, 512, 512]⟩
abbrev S4x3x512x512 : Shape := ⟨4, ![4, 3, 512, 512]⟩
abbrev S_ : Shape := ⟨0, ![]⟩
abbrev S4x32x262144 : Shape := ⟨3, ![4, 32, 262144]⟩
abbrev S4x262144x32 : Shape := ⟨3, ![4, 262144, 32]⟩
abbrev S4x1x512x512 : Shape := ⟨4, ![4, 1, 512, 512]⟩
abbrev S4x512x512 : Shape := ⟨3, ![4, 512, 512]⟩
abbrev S4x262144 : Shape := ⟨2, ![4, 262144]⟩
abbrev S8 : Shape := ⟨1, ![8]⟩
abbrev S4x262144x1 : Shape := ⟨3, ![4, 262144, 1]⟩
abbrev S1048576 : Shape := ⟨1, ![1048576]⟩
abbrev S1048576x1 : Shape := ⟨2, ![1048576, 1]⟩
abbrev S7 : Shape := ⟨1, ![7]⟩
abbrev S1 : Shape := ⟨1, ![1]⟩
abbrev S1x1x1 : Shape := ⟨3, ![1, 1, 1]⟩
abbrev S4x8x4x8192x32 : Shape := ⟨5, ![4, 8, 4, 8192, 32]⟩
abbrev S4x8x4x8192 : Shape := ⟨4, ![4, 8, 4, 8192]⟩
abbrev S4x8x4x8192x1 : Shape := ⟨5, ![4, 8, 4, 8192, 1]⟩
abbrev S4x8x4x32 : Shape := ⟨4, ![4, 8, 4, 32]⟩
abbrev S4x8x4 : Shape := ⟨3, ![4, 8, 4]⟩
abbrev S4x8x4x4 : Shape := ⟨4, ![4, 8, 4, 4]⟩

abbrev nBuf : Space → Nat
  | .hbm => 134
  | .vmem => 0
  | .smem => 0
  | _ => 0

abbrev hbmTy0_0 (i : Nat) : BufTy := match i % 128 with
  | 0 => ⟨S4x32x512x512, .f32⟩
  | 1 => ⟨S4x3x512x512, .i32⟩
  | 2 => ⟨S_, .i32⟩
  | 3 => ⟨S4x32x262144, .f32⟩
  | 4 => ⟨S4x262144x32, .f32⟩
  | 5 => ⟨S4x1x512x512, .i32⟩
  | 6 => ⟨S4x512x512, .i32⟩
  | 7 => ⟨S4x262144, .i32⟩
  | 8 => ⟨S4x1x512x512, .i32⟩
  | 9 => ⟨S4x512x512, .i32⟩
  | 10 => ⟨S4x262144, .i32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S4x262144x32, .f32⟩
  | 19 => ⟨S_, .f32⟩
  | 20 => ⟨S4x262144, .f32⟩
  | 21 => ⟨S4x262144, .f32⟩
  | 22 => ⟨S_, .i32⟩
  | 23 => ⟨S4x262144, .i32⟩
  | 24 => ⟨S4x262144, .i1⟩
  | 25 => ⟨S_, .i32⟩
  | 26 => ⟨S4x262144, .i32⟩
  | 27 => ⟨S4x262144, .i32⟩
  | 28 => ⟨S4x262144, .i32⟩
  | 29 => ⟨S4x262144x1, .i32⟩
  | 30 => ⟨S4x262144, .f32⟩
  | 31 => ⟨S4x262144, .f32⟩
  | 32 => ⟨S4x262144, .f32⟩
  | 33 => ⟨S1048576, .i32⟩
  | 34 => ⟨S1048576, .f32⟩
  | 35 => ⟨S_, .f32⟩
  | 36 => ⟨S8, .f32⟩
  | 37 => ⟨S1048576x1, .i32⟩
  | 38 => ⟨S8, .f32⟩
  | 39 => ⟨S_, .f32⟩
  | 40 => ⟨S1048576, .f32⟩
  | 41 => ⟨S_, .f32⟩
  | 42 => ⟨S8, .f32⟩
  | 43 => ⟨S1048576x1, .i32⟩
  | 44 => ⟨S8, .f32⟩
  | 45 => ⟨S8, .f32⟩
  | 46 => ⟨S7, .f32⟩
  | 47 => ⟨S_, .f32⟩
  | 48 => ⟨S_, .f32⟩
  | 49 => ⟨S_, .f32⟩
  | 50 => ⟨S_, .f32⟩
  | 51 => ⟨S4x262144, .i32⟩
  | 52 => ⟨S4x262144, .i32⟩
  | 53 => ⟨S4x262144, .i32⟩
  | 54 => ⟨S4x262144x1, .i32⟩
  | 55 => ⟨S_, .i32⟩
  | 56 => ⟨S4x262144x1, .i32⟩
  | 57 => ⟨S4x262144x1, .i1⟩
  | 58 => ⟨S_, .i32⟩
  | 59 => ⟨S4x262144x1, .i32⟩
  | 60 => ⟨S4x262144x1, .i32⟩
  | 61 => ⟨S4x262144x1, .i32⟩
  | 62 => ⟨S1, .i32⟩
  | 63 => ⟨S_, .i32⟩
  | 64 => ⟨S4x262144x1, .i32⟩
  | 65 => ⟨S4x262144x1, .i1⟩
  | 66 => ⟨S1x1x1, .i32⟩
  | 67 => ⟨S4x262144x1, .i32⟩
  | 68 => ⟨S4x262144x1, .i1⟩
  | 69 => ⟨S4x262144x1, .i1⟩
  | 70 => ⟨S_, .i1⟩
  | 71 => ⟨S4x262144, .i1⟩
  | 72 => ⟨S4x262144x32, .f32⟩
  | 73 => ⟨S4x262144x32, .i1⟩
  | 74 => ⟨S_, .f32⟩
  | 75 => ⟨S4x262144x32, .f32⟩
  | 76 => ⟨S4x262144x32, .f32⟩
  | 77 => ⟨S4x8x4x8192x32, .f32⟩
  | 78 => ⟨S4x8x4x8192x32, .f32⟩
  | 79 => ⟨S_, .f32⟩
  | 80 => ⟨S4x8x4x8192, .f32⟩
  | 81 => ⟨S4x8x4x8192x1, .f32⟩
  | 82 => ⟨S4x8x4x8192x1, .f32⟩
  | 83 => ⟨S_, .f32⟩
  | 84 => ⟨S4x8x4x8192x1, .f32⟩
  | 85 => ⟨S4x8x4x8192x1, .f32⟩
  | 86 => ⟨S4x8x4x8192x32, .f32⟩
  | 87 => ⟨S4x8x4x8192x32, .f32⟩
  | 88 => ⟨S_, .f32⟩
  | 89 => ⟨S4x8x4x32, .f32⟩
  | 90 => ⟨S4x8x4x32, .f32⟩
  | 91 => ⟨S_, .f32⟩
  | 92 => ⟨S4x8x4, .f32⟩
  | 93 => ⟨S4x8x4x8192x32, .f32⟩
  | 94 => ⟨S_, .f32⟩
  | 95 => ⟨S4x8x4, .f32⟩
  | 96 => ⟨S4x8x4, .f32⟩
  | 97 => ⟨S_, .f32⟩
  | 98 => ⟨S4x8x4, .f32⟩
  | 99 => ⟨S4x8x4, .f32⟩
  | 100 => ⟨S_, .f32⟩
  | 101 => ⟨S4x8x4, .f32⟩
  | 102 => ⟨S4x8x4, .f32⟩
  | 103 => ⟨S_, .f32⟩
  | 104 => ⟨S_, .f32⟩
  | 105 => ⟨S4x8x4x8192x32, .f32⟩
  | 106 => ⟨S_, .f32⟩
  | 107 => ⟨S_, .f32⟩
  | 108 => ⟨S4x8x4x8192x32, .f32⟩
  | 109 => ⟨S4x8x4x8192x32, .f32⟩
  | 110 => ⟨S4x8x4x4, .f32⟩
  | 111 => ⟨S4x8x4x4, .i32⟩
  | 112 => ⟨S4x8x4x4, .i32⟩
  | 113 => ⟨S4x8x4x4, .i1⟩
  | 114 => ⟨S_, .f32⟩
  | 115 => ⟨S4x8x4x4, .f32⟩
  | 116 => ⟨S4x8x4x4, .f32⟩
  | 117 => ⟨S_, .f32⟩
  | 118 => ⟨S4x8x4x4, .f32⟩
  | 119 => ⟨S4x8x4x4, .f32⟩
  | 120 => ⟨S_, .f32⟩
  | 121 => ⟨S_, .f32⟩
  | 122 => ⟨S4x8x4x4, .f32⟩
  | 123 => ⟨S4x8x4x4, .f32⟩
  | 124 => ⟨S_, .f32⟩
  | 125 => ⟨S_, .f32⟩
  | 126 => ⟨S_, .f32⟩
  | 127 => ⟨S_, .f32⟩
  | _ => ⟨S4x32x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S4x32x512x512, .f32⟩

abbrev hbmTy (i : Nat) : BufTy := match i / 128 with
  | 0 => hbmTy0_0 i
  | 1 => hbmTy0_1 i
  | _ => ⟨S4x32x512x512, .f32⟩

abbrev bufTy : (tb : Table) → Fin (tcTables nBuf tb) → BufTy
  | .hbm, ⟨i, _⟩ => hbmTy i
  | _, _ => ⟨S4x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_call1_v0 : Ref sig .tc := ⟨.hbm, 51, rfl⟩
abbrev main_call1_v1_0 : Ref sig .tc := ⟨.hbm, 52, rfl⟩
abbrev main_v36 : Ref sig .tc := ⟨.hbm, 53, rfl⟩
abbrev main_v37 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_c_2 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_c_3 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v38 : Ref sig .tc := ⟨.hbm, 76, rfl⟩
abbrev main_v39 : Ref sig .tc := ⟨.hbm, 77, rfl⟩
abbrev main_call3_v0 : Ref sig .tc := ⟨.hbm, 78, rfl⟩
abbrev main_call3_cst : Ref sig .tc := ⟨.hbm, 79, rfl⟩
abbrev main_call3_v1 : Ref sig .tc := ⟨.hbm, 80, rfl⟩
abbrev main_call3_v2 : Ref sig .tc := ⟨.hbm, 81, rfl⟩
abbrev main_v40 : Ref sig .tc := ⟨.hbm, 82, rfl⟩
abbrev main_cst_7 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_8 : Ref sig .tc := ⟨.hbm, 88, rfl⟩
abbrev main_v45 : Ref sig .tc := ⟨.hbm, 89, rfl⟩
abbrev main_v46 : Ref sig .tc := ⟨.hbm, 90, rfl⟩
abbrev main_cst_9 : Ref sig .tc := ⟨.hbm, 91, rfl⟩
abbrev main_v47 : Ref sig .tc := ⟨.hbm, 92, rfl⟩
abbrev main_v48 : Ref sig .tc := ⟨.hbm, 93, rfl⟩
abbrev main_cst_10 : Ref sig .tc := ⟨.hbm, 94, rfl⟩
abbrev main_v49 : Ref sig .tc := ⟨.hbm, 95, rfl⟩
abbrev main_v50 : Ref sig .tc := ⟨.hbm, 96, rfl⟩
abbrev main_cst_11 : Ref sig .tc := ⟨.hbm, 97, rfl⟩
abbrev main_v51 : Ref sig .tc := ⟨.hbm, 98, rfl⟩
abbrev main_v52 : Ref sig .tc := ⟨.hbm, 99, rfl⟩
abbrev main_cst_12 : Ref sig .tc := ⟨.hbm, 100, rfl⟩
abbrev main_v53 : Ref sig .tc := ⟨.hbm, 101, rfl⟩
abbrev main_v54 : Ref sig .tc := ⟨.hbm, 102, rfl⟩
abbrev main_cst_13 : Ref sig .tc := ⟨.hbm, 103, rfl⟩
abbrev main_v55 : Ref sig .tc := ⟨.hbm, 104, rfl⟩
abbrev main_v56 : Ref sig .tc := ⟨.hbm, 105, rfl⟩
abbrev main_call4_call0_cst : Ref sig .tc := ⟨.hbm, 106, rfl⟩
abbrev main_call4_call0_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_14 : Ref sig .tc := ⟨.hbm, 114, rfl⟩
abbrev main_v63 : Ref sig .tc := ⟨.hbm, 115, rfl⟩
abbrev main_v64 : Ref sig .tc := ⟨.hbm, 116, rfl⟩
abbrev main_cst_15 : Ref sig .tc := ⟨.hbm, 117, rfl⟩
abbrev main_v65 : Ref sig .tc := ⟨.hbm, 118, rfl⟩
abbrev main_v66 : Ref sig .tc := ⟨.hbm, 119, rfl⟩
abbrev main_cst_16 : Ref sig .tc := ⟨.hbm, 120, rfl⟩
abbrev main_call5_v0 : Ref sig .tc := ⟨.hbm, 121, rfl⟩
abbrev main_call5_v1 : Ref sig .tc := ⟨.hbm, 122, rfl⟩
abbrev main_v67 : Ref sig .tc := ⟨.hbm, 123, rfl⟩
abbrev main_cst_17 : Ref sig .tc := ⟨.hbm, 124, rfl⟩
abbrev main_v68 : Ref sig .tc := ⟨.hbm, 125, rfl⟩
abbrev main_v69 : Ref sig .tc := ⟨.hbm, 126, rfl⟩
abbrev main_cst_18 : Ref sig .tc := ⟨.hbm, 127, rfl⟩
abbrev main_v70 : Ref sig .tc := ⟨.hbm, 128, rfl⟩
abbrev main_cst_19 : Ref sig .tc := ⟨.hbm, 129, rfl⟩
abbrev main_v71 : Ref sig .tc := ⟨.hbm, 130, rfl⟩
abbrev main_cst_20 : Ref sig .tc := ⟨.hbm, 131, rfl⟩
abbrev main_v72 : Ref sig .tc := ⟨.hbm, 132, rfl⟩
abbrev main_v73 : Ref sig .tc := ⟨.hbm, 133, rfl⟩

abbrev nD : Nat := 1
abbrev τ : Topo := Topo.v7x

variable {F : FTy → Type} [FloatOps F]
-- ==== Proof.Pixel.lean ====
/- One pixel: a vector of 32 extended reals divided by its length plus a positive real.

   The quotient is always a vector of reals. Where every coordinate is real this is plain; where one is infinite the
   length is the top element, the reciprocal of the length is zero, and so is the quotient. This is why no finiteness of the
   input is asked for anywhere in the certificate. -/
module

public import Idealize.ShloMosaic.PureOps.Ideal.Laws

@[expose] public section

noncomputable section

namespace Cert.Pix

open Idealize.ShloMosaic

/-- A finite sum of reals, read in the extended reals, is the sum of their images. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The squared length of a vector. -/
def nsq {n : ℕ} (x : Fin n → EReal) : EReal := ∑ d, x d * x d

/-- The reciprocal of the length plus `e`. -/
def recip {n : ℕ} (e : ℝ) (x : Fin n → EReal) : EReal := Ideal.div 1 (Ideal.sqrt (nsq x) + (e : EReal))

/-- A square is not negative. -/
theorem sq_nonneg' (x : EReal) : 0 ≤ x * x := by
  induction x with
  | bot => simp
  | top => simp
  | coe r => rw [← EReal.coe_mul]; exact_mod_cast mul_self_nonneg r

/-- A squared length that is not the top element belongs to a vector of reals. -/
theorem real_of_nsq_ne_top {n : ℕ} (x : Fin n → EReal) (h : nsq x ≠ ⊤) : ∃ r : Fin n → ℝ, ∀ d, x d = (r d : EReal) := by
  have key : ∀ d, ∃ r : ℝ, x d = (r : EReal) := by
    intro d
    have hle : x d * x d ≤ nsq x := Finset.single_le_sum (f := fun d => x d * x d) (fun i _ => sq_nonneg' (x i)) (Finset.mem_univ d)
    cases hx : x d using EReal.rec with
    | bot => rw [hx, EReal.bot_mul_bot] at hle; exact absurd (top_le_iff.1 hle) h
    | top => rw [hx, EReal.top_mul_top] at hle; exact absurd (top_le_iff.1 hle) h
    | coe r => exact ⟨r, rfl⟩
  choose r hr using key
  exact ⟨r, hr⟩

/-- The squared length of a vector of reals. -/
theorem nsq_coe {n : ℕ} (r : Fin n → ℝ) : nsq (fun d => (r d : EReal)) = ((∑ d, r d * r d : ℝ) : EReal) := by
  rw [coe_sum]; exact Finset.sum_congr rfl fun d _ => (EReal.coe_mul _ _).symm

/-- The quotient of a vector by its length plus a positive real is a vector of reals `u`: multiplying by the reciprocal
    and dividing give the same vector, and the squared length times the reciprocal twice is the squared length of `u`. -/
theorem unit_real {n : ℕ} (e : ℝ) (he : 0 < e) (x : Fin n → EReal) : ∃ u : Fin n → ℝ,
    (∀ d, x d * recip e x = (u d : EReal))
    ∧ (∀ d, Ideal.div (x d) (Ideal.sqrt (nsq x) + (e : EReal)) = (u d : EReal))
    ∧ nsq x * recip e x * recip e x = ((∑ d, u d * u d : ℝ) : EReal) := by
  by_cases h : nsq x = ⊤
  · have h1 : Ideal.sqrt (nsq x) + (e : EReal) = ⊤ := by rw [h]; simp
    have h2 : recip e x = 0 := by unfold recip; rw [h1]; simp [Ideal.div]
    refine ⟨fun _ => 0, fun d => by rw [h2]; simp, fun d => by rw [h1]; simp [Ideal.div], by rw [h2]; simp⟩
  · obtain ⟨r, hr⟩ := real_of_nsq_ne_top x h
    obtain rfl : x = fun d => (r d : EReal) := funext hr
    have h0 : (0 : ℝ) ≤ ∑ d, r d * r d := Finset.sum_nonneg fun d _ => mul_self_nonneg _
    have hl : Ideal.sqrt (nsq fun d => (r d : EReal)) + (e : EReal) = ((Real.sqrt (∑ d, r d * r d) + e : ℝ) : EReal) := by
      rw [nsq_coe, Ideal.sqrt_coe, if_neg (not_lt.2 h0), EReal.coe_add]
    have hp : Real.sqrt (∑ d, r d * r d) + e ≠ 0 := by have := Real.sqrt_nonneg (∑ d, r d * r d); positivity
    have hc : recip e (fun d => (r d : EReal)) = ((1 / (Real.sqrt (∑ d, r d * r d) + e) : ℝ) : EReal) := by
      unfold recip; rw [hl, Ideal.div_coe hp, one_mul]
    refine ⟨fun d => r d * (1 / (Real.sqrt (∑ d, r d * r d) + e)), fun d => by rw [hc, EReal.coe_mul], fun d => by rw [hl, Ideal.div_coe hp, EReal.coe_mul], ?_⟩
    rw [hc, nsq_coe, ← EReal.coe_mul, ← EReal.coe_mul, Finset.sum_mul, Finset.sum_mul]
    exact congrArg _ (Finset.sum_congr rfl fun d _ => by ring)

end Cert.Pix

end
-- ==== Proof.Spec.lean ====
/- The names the two sides are compared in: a pixel's channel vector, its real unit vector, its radial error, and the values
   of the literals both programs hold. Images, rows and columns are natural numbers, so that sums over flattened
   positions can be re-blocked without carrying bounds. -/
module

public import proofs.«01_k».proof.Proof.Pixel
public import Idealize.ShloMosaic.Lib.ValueIdxCore
public import Idealize.ShloMosaic.PureOps.Ideal.Laws

@[expose] public section

noncomputable section

namespace Cert.Spec

open Idealize.ShloMosaic Idealize.ShloMosaic.ValueIdx

/-- The images: batch, channel, row, column. -/
abbrev A0 : Type := FVec Ideal ⟨4, ![4, 32, 512, 512]⟩ .f32

/-- The added word of the divisor is a positive real. -/
theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee]

def eps : ℝ := eps_word.choose
theorem eps_pos : 0 < eps := eps_word.choose_spec.1
theorem eps_eq : Ideal.ofBits .f32 0x358637BD#32 = (eps : EReal) := eps_word.choose_spec.2

theorem word_half_count : Ideal.ofBits .f32 0x4C000400#32 = ((33558528 : ℝ) : EReal) := by
  simp [Ideal.ofBits, Ideal.ieee]; rw [← EReal.coe_pow, ← EReal.coe_mul]; norm_num
theorem word_count : Ideal.ofBits .f32 0x4C800400#32 = ((67117056 : ℝ) : EReal) := by
  simp [Ideal.ofBits, Ideal.ieee]; rw [← EReal.coe_pow, ← EReal.coe_mul]; norm_num
theorem word_neg_two : Ideal.ofBits .f32 0xC0000000#32 = ((-2 : ℝ) : EReal) := by
  simp [Ideal.ofBits, Ideal.ieee]; rw [← EReal.coe_mul]; norm_num
theorem word_four : Ideal.ofBits .f32 0x40800000#32 = ((4 : ℝ) : EReal) := by
  simp [Ideal.ofBits, Ideal.ieee]; rw [← EReal.coe_mul]; norm_num
theorem word_neg_384 : Ideal.ofBits .f32 0xC3C00000#32 = ((-384 : ℝ) : EReal) := by
  simp [Ideal.ofBits, Ideal.ieee]; rw [← EReal.coe_mul]; norm_num
theorem word_131072 : Ideal.ofBits .f32 0x48000000#32 = ((131072 : ℝ) : EReal) := by
  simp [Ideal.ofBits, Ideal.ieee]; rw [← EReal.coe_mul]; norm_num

/-- The channel vector of the pixel in row `r` and column `w` of image `b`. -/
def px (X : A0) (b r w : ℕ) : Fin 32 → EReal := fun d => X (ix4 (Fin.ofNat 4 b) d (Fin.ofNat 512 r) (Fin.ofNat 512 w))

/-- An element of the images is a channel of a pixel. -/
theorem eq_px (X : A0) (j : (⟨4, ![4, 32, 512, 512]⟩ : Shape).Idx) (b r w : ℕ) (d : Fin 32)
    (h0 : (j 0).val = b) (h1 : (j 1).val = d.val) (h2 : (j 2).val = r) (h3 : (j 3).val = w) : X j = px X b r w d := by
  unfold px
  refine congrArg X (funext fun a => Fin.ext ?_)
  have l0 : (j 0).val < 4 := (j 0).isLt
  have l2 : (j 2).val < 512 := (j 2).isLt
  have l3 : (j 3).val < 512 := (j 3).isLt
  match a with
  | ⟨0, _⟩ => show (j 0).val = b % 4; omega
  | ⟨1, _⟩ => exact h1
  | ⟨2, _⟩ => show (j 2).val = r % 512; omega
  | ⟨3, _⟩ => show (j 3).val = w % 512; omega

/-- The pixel's unit vector. -/
def U (X : A0) (b r w : ℕ) : Fin 32 → ℝ := (Pix.unit_real eps eps_pos (px X b r w)).choose

theorem U_mul (X : A0) (b r w : ℕ) (d : Fin 32) : px X b r w d * Pix.recip eps (px X b r w) = (U X b r w d : EReal) :=
  (Pix.unit_real eps eps_pos (px X b r w)).choose_spec.1 d
theorem U_div (X : A0) (b r w : ℕ) (d : Fin 32) :
    Ideal.div (px X b r w d) (Ideal.sqrt (Pix.nsq (px X b r w)) + (eps : EReal)) = (U X b r w d : EReal) :=
  (Pix.unit_real eps eps_pos (px X b r w)).choose_spec.2.1 d
theorem U_sq (X : A0) (b r w : ℕ) : Pix.nsq (px X b r w) * Pix.recip eps (px X b r w) * Pix.recip eps (px X b r w)
    = ((∑ d, U X b r w d * U X b r w d : ℝ) : EReal) :=
  (Pix.unit_real eps eps_pos (px X b r w)).choose_spec.2.2

/-- The pixel's squared distance from the sphere of category `c`, of radius `1 + 1 * c`. -/
def err (X : A0) (c b r w : ℕ) : EReal :=
  (Ideal.sqrt (Pix.nsq (px X b r w)) - (1 + 1 * ((c : ℝ) : EReal))) * (Ideal.sqrt (Pix.nsq (px X b r w)) - (1 + 1 * ((c : ℝ) : EReal)))

end Cert.Spec

end
-- ==== Proof.Segments.lean ====
/- The algebra of one category: real sums over its 64 rows of 512 pixels, cut into 4 segments of 16 rows.

   A pair of segments `i < j` contributes, per coordinate, `∑ p, a p * ∑ q ≥ p, b q` over the 8192 pixels in row order.
   Splitting a pixel into its row and its column, `p ≤ q` says that `p`'s row comes before `q`'s, or that the rows are the
   same and `p`'s column is not after `q`'s. The first kind of pair is a sum over row totals, the second a sum inside a row. -/
module

public import Mathlib.Algebra.BigOperators.Fin
public import Mathlib.Data.Real.Basic
public import Mathlib.Logic.Equiv.Fin.Basic
public import Mathlib.Tactic.Ring

@[expose] public section

namespace Cert.Seg

/-- A sum over `m * n` places is the sum over rows and columns. -/
theorem sum_rows {M : Type*} [AddCommMonoid M] {N : ℕ} (m n : ℕ) (h : m * n = N) (f : Fin N → M) :
    ∑ p, f p = ∑ r : Fin m, ∑ w : Fin n, f ⟨r.val * n + w.val, by
      have h1 := r.isLt; have h2 := w.isLt; subst h
      calc r.val * n + w.val < r.val * n + n := by omega
        _ = (r.val + 1) * n := by ring
        _ ≤ m * n := Nat.mul_le_mul_right n h1⟩ := by
  subst h
  rw [← Equiv.sum_comp finProdFinEquiv f, Fintype.sum_prod_type]
  refine Finset.sum_congr rfl fun r _ => Finset.sum_congr rfl fun w _ => congrArg f (Fin.ext ?_)
  simp [finProdFinEquiv, Nat.mul_comm, Nat.add_comm]

/-- Row order of two places given by row and column. -/
theorem le_iff_rows {n r w r' w' : ℕ} (hw : w < n) (hw' : w' < n) :
    r * n + w ≤ r' * n + w' ↔ r < r' ∨ (r = r' ∧ w ≤ w') := by
  rcases Nat.lt_trichotomy r r' with h | h | h
  · have : (r + 1) * n ≤ r' * n := Nat.mul_le_mul_right n h
    have : (r + 1) * n = r * n + n := by ring
    constructor
    · intro _; exact Or.inl h
    · intro _; omega
  · subst h
    constructor
    · intro _; exact Or.inr ⟨rfl, by omega⟩
    · rintro (h | h) <;> omega
  · have : (r' + 1) * n ≤ r * n := Nat.mul_le_mul_right n h
    have : (r' + 1) * n = r' * n + n := by ring
    constructor
    · intro _; omega
    · rintro (h | h) <;> omega

/-- The pairs `p ≤ q`, by row: the pairs inside one row, and the pairs of different rows through the row totals. -/
theorem pairs_by_rows (m n : ℕ) (a b : ℕ → ℕ → ℝ) :
    (∑ r : Fin m, ∑ w : Fin n, ∑ r' : Fin m, ∑ w' : Fin n,
        if r.val * n + w.val ≤ r'.val * n + w'.val then a r w * b r' w' else 0)
      = (∑ r : Fin m, ∑ w' : Fin n, (∑ w : Fin n, if w.val ≤ w'.val then a r w else 0) * b r w')
        + ∑ r' : Fin m, (∑ r : Fin m, if r.val < r'.val then ∑ w : Fin n, a r w else 0) * ∑ w' : Fin n, b r' w' := by
  have split : ∀ (r : Fin m) (w : Fin n) (r' : Fin m) (w' : Fin n),
      (if r.val * n + w.val ≤ r'.val * n + w'.val then a r w * b r' w' else 0)
        = (if r' = r then (if w.val ≤ w'.val then a r w * b r' w' else 0) else 0)
          + (if r.val < r'.val then a r w * b r' w' else 0) := by
    intro r w r' w'
    simp only [le_iff_rows w.isLt w'.isLt, Fin.ext_iff]
    rcases Nat.lt_trichotomy r.val r'.val with h | h | h
    · rw [if_pos (Or.inl h), if_neg (by omega), if_pos h, zero_add]
    · by_cases hw : w.val ≤ w'.val
      · rw [if_pos (Or.inr ⟨h, hw⟩), if_pos h.symm, if_pos hw, if_neg (by omega), add_zero]
      · rw [if_neg (by omega), if_pos h.symm, if_neg hw, if_neg (by omega), add_zero]
    · rw [if_neg (by omega), if_neg (by omega), if_neg (by omega), add_zero]
  simp only [split, Finset.sum_add_distrib]
  congr 1
  · refine Finset.sum_congr rfl fun r _ => ?_
    have : ∀ w : Fin n, (∑ r' : Fin m, ∑ w' : Fin n, if r' = r then (if w.val ≤ w'.val then a r w * b r' w' else 0) else 0)
        = ∑ w' : Fin n, if w.val ≤ w'.val then a r w * b r w' else 0 := by
      intro w
      rw [Finset.sum_comm]
      exact Finset.sum_congr rfl fun w' _ => by rw [Finset.sum_ite_eq' Finset.univ r]; simp
    simp only [this]
    rw [Finset.sum_comm]
    refine Finset.sum_congr rfl fun w' _ => ?_
    rw [Finset.sum_mul]
    exact Finset.sum_congr rfl fun w _ => by split_ifs <;> simp
  · have h1 : ∀ r : Fin m, (∑ w : Fin n, ∑ r' : Fin m, ∑ w' : Fin n, if r.val < r'.val then a r w * b r' w' else 0)
        = ∑ r' : Fin m, ∑ w : Fin n, ∑ w' : Fin n, if r.val < r'.val then a r w * b r' w' else 0 := fun r => Finset.sum_comm
    simp only [h1]
    rw [Finset.sum_comm]
    refine Finset.sum_congr rfl fun r' _ => ?_
    rw [Finset.sum_mul]
    refine Finset.sum_congr rfl fun r _ => ?_
    by_cases h : r.val < r'.val
    · simp only [if_pos h]; rw [Finset.sum_mul]; exact Finset.sum_congr rfl fun w _ => by rw [Finset.mul_sum]
    · simp only [if_neg h, Finset.sum_const_zero, zero_mul]

/-- The running inner sum of one row. -/
noncomputable def pre (n : ℕ) (a : ℕ → ℝ) (w' : ℕ) : ℝ := ∑ w : Fin n, if w.val ≤ w' then a w else 0

/-- What a pair of segments contributes in one coordinate. -/
noncomputable def pairTerm (m n : ℕ) (a b : ℕ → ℕ → ℝ) : ℝ :=
  ∑ p : Fin (m * n), a (p.val / n) (p.val % n) * ∑ q : Fin (m * n), if p.val ≤ q.val then b (q.val / n) (q.val % n) else 0

/-- That contribution, by rows. -/
theorem pairTerm_eq (m n : ℕ) (a b : ℕ → ℕ → ℝ) :
    pairTerm m n a b = (∑ r : Fin m, ∑ w' : Fin n, pre n (a r) w' * b r w')
        + ∑ r' : Fin m, (∑ r : Fin m, if r.val < r'.val then ∑ w : Fin n, a r w else 0) * ∑ w' : Fin n, b r' w' := by
  unfold pre
  rw [← pairs_by_rows, pairTerm, sum_rows m n rfl]
  refine Finset.sum_congr rfl fun r _ => Finset.sum_congr rfl fun w _ => ?_
  rw [sum_rows m n rfl, Finset.mul_sum]
  refine Finset.sum_congr rfl fun r' _ => ?_
  rw [Finset.mul_sum]
  refine Finset.sum_congr rfl fun w' _ => ?_
  have hd : ∀ (s : Fin m) (v : Fin n), (s.val * n + v.val) / n = s.val := fun s v => by
    rw [Nat.mul_comm, Nat.mul_add_div (by have := v.isLt; omega), Nat.div_eq_of_lt v.isLt, add_zero]
  have hm : ∀ (s : Fin m) (v : Fin n), (s.val * n + v.val) % n = v.val := fun s v => by
    rw [Nat.mul_comm, Nat.mul_add_mod, Nat.mod_eq_of_lt v.isLt]
  simp only [hd, hm]
  split_ifs <;> simp

/-- The six pairs of the four segments: inside the rows, the kernel adds up running sums segment after segment; across
    rows, it multiplies the 64 row totals by a 0/1 matrix that says "an earlier segment and an earlier row in it". -/
theorem six_pairs (m n : ℕ) (g : ℕ → ℕ → ℝ) :
    (∑ r : Fin m, ∑ w : Fin n,
        ((pre n (g r) w * g (m + r) w + (pre n (g r) w + pre n (g (m + r)) w) * g (2 * m + r) w)
          + ((pre n (g r) w + pre n (g (m + r)) w) + pre n (g (2 * m + r)) w) * g (3 * m + r) w))
      + (∑ j : Fin 4, ∑ r' : Fin m, (∑ i : Fin 4, ∑ r : Fin m,
            (∑ w : Fin n, g (i.val * m + r) w) * (if i.val < j.val ∧ r.val < r'.val then 1 else 0)) * ∑ w : Fin n, g (j.val * m + r') w)
      = ∑ i : Fin 4, ∑ j : Fin 4, if i.val < j.val then pairTerm m n (fun r => g (i.val * m + r)) (fun r => g (j.val * m + r)) else 0 := by
  simp only [pairTerm_eq, Fin.sum_univ_four]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  have cut : ∀ (P : Prop) [Decidable P] (x : ℝ), x * (if P then 1 else 0) = if P then x else 0 := fun P _ x => by split_ifs <;> simp
  simp only [e0, e1, e2, e3, cut]
  simp only [Nat.lt_irrefl, Nat.not_lt_zero, Nat.zero_lt_one, Nat.zero_lt_two, Nat.one_lt_two, false_and, true_and, if_true, if_false,
    Finset.sum_const_zero, zero_mul, add_zero, zero_add, one_mul, (by decide : (0:ℕ) < 3), (by decide : (1:ℕ) < 3), (by decide : (2:ℕ) < 3),
    (by decide : ¬ (2:ℕ) < 1), (by decide : ¬ (3:ℕ) < 1), (by decide : ¬ (3:ℕ) < 2)]
  simp only [add_mul, Finset.sum_add_distrib]
  ring

end Cert.Seg

end
-- ==== Proof.Terms.lean ====
/- The quantities both programs are reduced to: a category's radial error, the sums of a segment's unit vectors, and the pair
   sums of two segments of a category. -/
module

public import proofs.«01_k».proof.Proof.Spec
public import proofs.«01_k».proof.Proof.Segments

@[expose] public section

noncomputable section

namespace Cert.Terms

open Idealize.ShloMosaic Cert.Spec

/-- The radial error of category `c`: its 64 rows in every image. -/
def total (X : A0) (c : ℕ) : EReal := ∑ b : Fin 4, ∑ r : Fin 64, ∑ w : Fin 512, err X c b.val (c * 64 + r.val) w.val

/-- Channel `d` of the unit vector in row `R` of category `c`, column `w`. -/
def V (X : A0) (b c : ℕ) (d : Fin 32) (R w : ℕ) : ℝ := U X b (c * 64 + R) w d

/-- Channel `d` of the sum of a segment's unit vectors. -/
def seg (X : A0) (b c s : ℕ) (d : Fin 32) : ℝ := ∑ p : Fin 8192, V X b c d (s * 16 + p.val / 512) (p.val % 512)

/-- The squared length of that sum. -/
def segSq (X : A0) (b c s : ℕ) : ℝ := ∑ d : Fin 32, seg X b c s d * seg X b c s d

/-- The sum of the squared lengths of a segment's unit vectors. -/
def diag (X : A0) (b c s : ℕ) : ℝ :=
  ∑ p : Fin 8192, ∑ d : Fin 32, V X b c d (s * 16 + p.val / 512) (p.val % 512) * V X b c d (s * 16 + p.val / 512) (p.val % 512)

/-- The sum of the inner products of the pixels of segment `i` with the later or equally placed ones of segment `j`. -/
def pairs (X : A0) (b c i j : ℕ) : ℝ :=
  ∑ d : Fin 32, Seg.pairTerm 16 512 (fun R => V X b c d (i * 16 + R)) (fun R => V X b c d (j * 16 + R))

end Cert.Terms

end
-- ==== Proof.Sums.lean ====
/- Sums over multi-indices as sums over their coordinates, and a sum over the last two axes of a rank-5 array. -/
module

public import Idealize.ShloMosaic.Lib.ValueIdxCore
public import Idealize.ShloMosaic.PureOps.Reduce
public import Idealize.ShloMosaic.PureOps.Ideal.Laws

@[expose] public section

noncomputable section

namespace Cert.Sums

open Idealize.ShloMosaic Idealize.ShloMosaic.ValueIdx

/-- A rank-3 sum, one coordinate at a time. -/
theorem sum3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  let e : Fin n0 × Fin n1 × Fin n2 ≃ (⟨3, ![n0, n1, n2]⟩ : Shape).Idx :=
    ⟨fun p => ix3 p.1 p.2.1 p.2.2, fun i => (i 0, i 1, i 2), fun _ => rfl, fun i => (eq_ix3 i).symm⟩
  rw [← Equiv.sum_comp e f, Fintype.sum_prod_type]
  exact Finset.sum_congr rfl fun a _ => Fintype.sum_prod_type _

/-- A rank-4 sum, one coordinate at a time. -/
theorem sum4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  let e : Fin n0 × Fin n1 × Fin n2 × Fin n3 ≃ (⟨4, ![n0, n1, n2, n3]⟩ : Shape).Idx :=
    ⟨fun p => ix4 p.1 p.2.1 p.2.2.1 p.2.2.2, fun i => (i 0, i 1, i 2, i 3), fun _ => rfl, fun i => (eq_ix4 i).symm⟩
  rw [← Equiv.sum_comp e f, Fintype.sum_prod_type]
  refine Finset.sum_congr rfl fun a _ => (Fintype.sum_prod_type _).trans ?_
  exact Finset.sum_congr rfl fun b _ => Fintype.sum_prod_type _

/-- The host's sum over the last two of five axes. -/
theorem host_last_two {n0 n1 n2 n3 n4 : ℕ} (h : (⟨5, ![n0, n1, n2, n3, n4]⟩ : Shape).ReducesTo [3, 4] ⟨3, ![n0, n1, n2]⟩)
    (x : (⟨5, ![n0, n1, n2, n3, n4]⟩ : Shape).Idx → EReal) (init : EReal) (a : Fin n0) (b : Fin n1) (c : Fin n2) :
    Ideal.hostReduceAdd h x init (ix3 a b c) = init + ∑ p : Fin n3, ∑ q : Fin n4, x (ix5 a b c p q) := by
  unfold Ideal.hostReduceAdd
  congr 1
  rw [← Fintype.sum_prod_type' (fun p q => x (ix5 a b c p q))]
  have hd : ∀ i, h.drop i = ix3 a b c ↔ (i 0).val = a.val ∧ (i 1).val = b.val ∧ (i 2).val = c.val := by
    intro i
    constructor
    · intro e
      exact ⟨congrArg Fin.val (congrFun e 0), congrArg Fin.val (congrFun e 1), congrArg Fin.val (congrFun e 2)⟩
    · rintro ⟨e0, e1, e2⟩
      funext k
      match k with
      | ⟨0, _⟩ => exact Fin.ext e0
      | ⟨1, _⟩ => exact Fin.ext e1
      | ⟨2, _⟩ => exact Fin.ext e2
  refine Finset.sum_bij' (fun i _ => (i 3, i 4)) (fun p _ => ix5 a b c p.1 p.2) (fun _ _ => Finset.mem_univ _) ?_ ?_ (fun _ _ => rfl) ?_
  · intro p _
    exact Finset.mem_filter.2 ⟨Finset.mem_univ _, (hd _).2 ⟨rfl, rfl, rfl⟩⟩
  · intro i hi
    obtain ⟨e0, e1, e2⟩ := (hd i).1 (Finset.mem_filter.1 hi).2
    funext k
    match k with
    | ⟨0, _⟩ => exact Fin.ext e0.symm
    | ⟨1, _⟩ => exact Fin.ext e1.symm
    | ⟨2, _⟩ => exact Fin.ext e2.symm
    | ⟨3, _⟩ => rfl
    | ⟨4, _⟩ => rfl
  · intro i hi
    obtain ⟨e0, e1, e2⟩ := (hd i).1 (Finset.mem_filter.1 hi).2
    congr 1
    funext k
    match k with
    | ⟨0, _⟩ => exact Fin.ext e0
    | ⟨1, _⟩ => exact Fin.ext e1
    | ⟨2, _⟩ => exact Fin.ext e2
    | ⟨3, _⟩ => rfl
    | ⟨4, _⟩ => rfl

end Cert.Sums

end
-- ==== Proof.KerUnit.lean ====
/- One block of the kernel, pixel by pixel: the lengths, the unit vectors, and the two sums over pixels the block reports
   (the radial error and the squared lengths of the unit vectors). -/
module

public import proofs.«01_k».proof.Proof.Terms
public import proofs.«01_k».proof.Proof.Sums
public import proofs.«01_k».proof.Proof.Gen.KernelIdeal.Skeleton
public import Idealize.ShloMosaic.Lib.IdealHost
public import Idealize.ShloMosaic.Lib.ValueIdx
public import Idealize.ShloMosaic.Lib.WordCmp
public import Idealize.ShloMosaic.Lib.Pipeline.Value

@[expose] public section

noncomputable section

namespace Cert.KerUnit

open Idealize.ShloMosaic Idealize.ShloMosaic.ValueIdx Cert.KernelIdeal Cert.KernelIdeal.Gen Cert.Spec Cert.Terms

/-- The kernel's total of a rank-3 vector, read out of its one element. -/
theorem total3 {n0 n1 n2 : ℕ} (v : FVec Ideal ⟨3, ![n0, n1, n2]⟩ .f32) (acc : BitVec FTy.f32.bits)
    (h1 : (⟨3, ![n0, n1, n2]⟩ : Shape).ShapeCasts ⟨4, ![1, n0, n1, n2]⟩) (h2 : (⟨4, ![1, n0, n1, n2]⟩ : Shape).Reduces [1, 2, 3] ⟨1, ![1]⟩)
    (h3 : (⟨1, ![1]⟩ : Shape).ShapeCasts ⟨4, ![1, 1, 1, 1]⟩) (hφ : FKind.Formats FTy.f32) (hacc : acc = FKind.add.neutral FTy.f32 hφ)
    (hp : ∀ a, (![0, 0, 0, 0] : Fin 4 → ℕ) a < (⟨4, ![1, 1, 1, 1]⟩ : Shape).size a) :
    extractAt ![0, 0, 0, 0] (shapeCast ⟨4, ![1, 1, 1, 1]⟩ (multiReduction .add [1, 2, 3] ⟨1, ![1]⟩ (shapeCast ⟨4, ![1, n0, n1, n2]⟩ v h1) acc h2 hφ hacc) h3) hp
      = ∑ a : Fin n0, ∑ b : Fin n1, ∑ c : Fin n2, v (ix3 a b c) := by
  refine (Ideal.multiReduction_add_total (shapeCast ⟨4, ![1, n0, n1, n2]⟩ v h1) acc h2 (fun b => by match b with | ⟨0, _⟩ => rfl) hφ hacc _).trans ?_
  refine (Sums.sum4 _).trans ?_
  rw [Fin.sum_univ_one]
  refine Finset.sum_congr rfl fun a _ => Finset.sum_congr rfl fun b _ => Finset.sum_congr rfl fun c _ => ?_
  refine shapeCast_apply v h1 _ (ix3 a b c) ?_
  rw [Shape.rowMajor_val_three, Shape.rowMajor_val_four]
  show (a.val * n1 + b.val) * n2 + c.val = ((0 * n0 + a.val) * n1 + b.val) * n2 + c.val
  rw [Nat.zero_mul, Nat.zero_add]

/-- The kernel's total of a rank-2 vector, read out of its one element. -/
theorem total2 {n0 n1 : ℕ} (v : FVec Ideal ⟨2, ![n0, n1]⟩ .f32) (acc : BitVec FTy.f32.bits)
    (h1 : (⟨2, ![n0, n1]⟩ : Shape).ShapeCasts ⟨3, ![1, n0, n1]⟩) (h2 : (⟨3, ![1, n0, n1]⟩ : Shape).Reduces [1, 2] ⟨1, ![1]⟩)
    (h3 : (⟨1, ![1]⟩ : Shape).ShapeCasts ⟨3, ![1, 1, 1]⟩) (hφ : FKind.Formats FTy.f32) (hacc : acc = FKind.add.neutral FTy.f32 hφ)
    (hp : ∀ a, (![0, 0, 0] : Fin 3 → ℕ) a < (⟨3, ![1, 1, 1]⟩ : Shape).size a) :
    extractAt ![0, 0, 0] (shapeCast ⟨3, ![1, 1, 1]⟩ (multiReduction .add [1, 2] ⟨1, ![1]⟩ (shapeCast ⟨3, ![1, n0, n1]⟩ v h1) acc h2 hφ hacc) h3) hp
      = ∑ a : Fin n0, ∑ b : Fin n1, v (ix2 a b) := by
  refine (Ideal.multiReduction_add_total (shapeCast ⟨3, ![1, n0, n1]⟩ v h1) acc h2 (fun b => by match b with | ⟨0, _⟩ => rfl) hφ hacc _).trans ?_
  refine (Sums.sum3 _).trans ?_
  rw [Fin.sum_univ_one]
  refine Finset.sum_congr rfl fun a _ => Finset.sum_congr rfl fun b _ => ?_
  refine shapeCast_apply v h1 _ (ix2 a b) ?_
  rw [Shape.rowMajor_val_two, Shape.rowMajor_val_three]
  show a.val * n1 + b.val = (0 * n0 + a.val) * n1 + b.val
  rw [Nat.zero_mul, Nat.zero_add]

/-- A block holds the rows of one category of one image. -/
def Rows (X : A0) (b c : ℕ) (x0 : Vec Ideal S1x32x64x512 .f32) : Prop :=
  ∀ (d : Fin 32) (r : Fin 64) (w : Fin 512), x0 (ix4 (0 : Fin 1) d r w) = px X b (c * 64 + r.val) w.val d

variable {X : A0} {b c : ℕ} {x0 : Vec Ideal S1x32x64x512 .f32} (h : Rows X b c x0)
include h

theorem pay2_at (d : Fin 32) (r : Fin 64) (w : Fin 512) : k0_pay2 (F := Ideal) x0 (ix3 d r w) = px X b (c * 64 + r.val) w.val d := by
  unfold k0_pay2
  refine (shapeCast_apply x0 shapeCasts_S1x32x64x512_S32x64x512 (ix3 d r w) (ix4 (0 : Fin 1) d r w) ?_).trans (h d r w)
  rw [Shape.rowMajor_val_three, Shape.rowMajor_val_four]
  show ((0 * 32 + d.val) * 64 + r.val) * 512 + w.val = (d.val * 64 + r.val) * 512 + w.val
  rw [Nat.zero_mul, Nat.zero_add]

/-- The squared length. -/
theorem pay3_at (u : Fin 1) (r : Fin 64) (w : Fin 512) :
    k0_pay3 (F := Ideal) x0 (ix3 u r w) = Pix.nsq (px X b (c * 64 + r.val) w.val) := by
  unfold k0_pay3
  refine (shapeCast_apply _ shapeCasts_S64x512_S1x64x512 (ix3 u r w) (ix2 r w) ?_).trans ?_
  · rw [Shape.rowMajor_val_two, Shape.rowMajor_val_three]
    show r.val * 512 + w.val = (u.val * 64 + r.val) * 512 + w.val
    rw [show u.val = 0 by omega, Nat.zero_mul, Nat.zero_add]
  · refine (Ideal.multiReduction_add_single (mulf (k0_pay2 (F := Ideal) x0) (k0_pay2 x0)) _ reduces_S32x64x512_S64x512 _ _ (ix2 r w)).trans ?_
    unfold Pix.nsq
    have e : ∀ d : Fin 32, reduces_S32x64x512_S64x512.lift (ix2 r w) d = ix3 d r w := fun d => by
      funext a
      match a with
      | ⟨0, _⟩ => rfl
      | ⟨1, _⟩ => rfl
      | ⟨2, _⟩ => rfl
    have e' : ∀ d : Fin 32, mulf (k0_pay2 (F := Ideal) x0) (k0_pay2 x0) (ix3 d r w)
        = px X b (c * 64 + r.val) w.val d * px X b (c * 64 + r.val) w.val d := fun d => by
      rw [mulf_apply, pay2_at h]
    exact Finset.sum_congr rfl fun d _ => (congrArg _ (e d)).trans (e' d)

/-- The length. -/
theorem pay4_at (u : Fin 1) (r : Fin 64) (w : Fin 512) :
    k0_pay4 (F := Ideal) x0 (ix3 u r w) = Ideal.sqrt (Pix.nsq (px X b (c * 64 + r.val) w.val)) := by
  unfold k0_pay4
  show FloatOps.sqrt (k0_pay3 (F := Ideal) x0 (ix3 u r w)) = _
  rw [pay3_at h, Ideal.sqrt_def]

/-- The reciprocal of the length plus the small constant. -/
theorem pay5_at (u : Fin 1) (r : Fin 64) (w : Fin 512) :
    k0_pay5 (F := Ideal) x0 (ix3 u r w) = Pix.recip eps (px X b (c * 64 + r.val) w.val) := by
  unfold k0_pay5 Pix.recip
  show FloatOps.divf (FloatOps.ofBits .f32 0x3F800000#32) (FloatOps.addf (k0_pay4 (F := Ideal) x0 (ix3 u r w)) (FloatOps.ofBits .f32 0x358637BD#32)) = _
  rw [pay4_at h, Ideal.ofBits_def, Ideal.ofBits_def, Ideal.divf_def, Ideal.addf_def, Ideal.ofBits_one_f32, eps_eq]

/-- The unit vector. -/
theorem pay8_at (d : Fin 32) (r : Fin 64) (w : Fin 512) : k0_pay8 (F := Ideal) x0 (ix3 d r w) = (V X b c d r.val w.val : EReal) := by
  unfold k0_pay8
  have e : broadcastTo S32x64x512 (k0_pay5 (F := Ideal) x0) broadcasts_S1x64x512_S32x64x512 (ix3 d r w) = k0_pay5 (F := Ideal) x0 (ix3 (0 : Fin 1) r w) := by
    refine broadcastTo_apply _ _ _ _ fun a => ?_
    match a with
    | ⟨0, _⟩ => rfl
    | ⟨1, _⟩ => rfl
    | ⟨2, _⟩ => rfl
  rw [mulf_apply, e, pay2_at h, pay5_at h, U_mul]
  rfl

/-- The block's sum of squared lengths of unit vectors. -/
theorem pay7_eq : k0_pay7 (F := Ideal) x0 = ((∑ s : Fin 4, diag X b c s.val : ℝ) : EReal) := by
  unfold k0_pay7
  refine (total3 (n0 := 1) (n1 := 64) (n2 := 512) (mulf (mulf (k0_pay3 (F := Ideal) x0) (k0_pay5 x0)) (k0_pay5 x0)) _ _ _ _ _ _ _).trans ?_
  rw [Fin.sum_univ_one]
  have e : ∀ (r : Fin 64) (w : Fin 512), mulf (mulf (k0_pay3 (F := Ideal) x0) (k0_pay5 x0)) (k0_pay5 x0) (ix3 (0 : Fin 1) r w)
      = ((∑ d, V X b c d r.val w.val * V X b c d r.val w.val : ℝ) : EReal) := fun r w => by
    rw [mulf_apply, mulf_apply, pay3_at h, pay5_at h, U_sq]
    rfl
  simp only [e, ← Pix.coe_sum]
  refine congrArg _ ?_
  rw [Seg.sum_rows 4 16 rfl]
  refine Finset.sum_congr rfl fun s _ => ?_
  unfold diag
  rw [Seg.sum_rows 16 512 rfl]
  refine Finset.sum_congr rfl fun r _ => Finset.sum_congr rfl fun w _ => Finset.sum_congr rfl fun d _ => ?_
  have e1 : (r.val * 512 + w.val) / 512 = r.val := by omega
  have e2 : (r.val * 512 + w.val) % 512 = w.val := by omega
  simp only [e1, e2]

/-- The block's radial error. -/
theorem pay6_eq (i : grid0.Coords) (hi : (i 1).val = c) (hc : c < 8) :
    k0_pay6 (F := Ideal) i x0 = ∑ r : Fin 64, ∑ w : Fin 512, err X c b (c * 64 + r.val) w.val := by
  unfold k0_pay6
  refine (total3 (n0 := 1) (n1 := 64) (n2 := 512) _ _ _ _ _ _ _ _).trans ?_
  rw [Fin.sum_univ_one]
  refine Finset.sum_congr rfl fun r _ => Finset.sum_congr rfl fun w _ => ?_
  rw [mulf_apply, subf_apply, pay4_at h, hi]
  have e : (BitVec.ofNat 32 c).toInt = c := WordCmp.toInt_ofNat_of_lt (by omega)
  rw [broadcast_apply, Ideal.scalar_addf_def, Ideal.scalar_mulf_def, Ideal.scalar_sitofp_def, e]
  show (_ - (Ideal.ofBits .f32 0x3F800000#32 + Ideal.ofBits .f32 0x3F800000#32 * _)) * (_ - (Ideal.ofBits .f32 0x3F800000#32 + Ideal.ofBits .f32 0x3F800000#32 * _)) = _
  rw [Ideal.ofBits_one_f32]
  rfl

end Cert.KerUnit

end
-- ==== Proof.KerPairs.lean ====
/- One block of the kernel, segment by segment: the running sums along a row, the sums of the rows, and the two numbers the
   block makes of them (the squared lengths of the segments' sums, and the pair sums of its four segments). -/
module

public import proofs.«01_k».proof.Proof.KerUnit

@[expose] public section

noncomputable section

namespace Cert.KerPairs

open Idealize.ShloMosaic Idealize.ShloMosaic.ValueIdx Cert.KernelIdeal Cert.KernelIdeal.Gen Cert.Spec Cert.Terms Cert.KerUnit

/-- The matrix that sums a row up to each column. -/
def Upto (x1 : Vec Ideal S512x512 .f32) : Prop :=
  ∀ k w : Fin 512, x1 (ix2 k w) = ((if k.val ≤ w.val then 1 else 0 : ℝ) : EReal)

/-- The matrix that picks, for a row, the rows above it (in their own segments) of the earlier segments. -/
def Above (x2 : Vec Ideal S64x64 .f32) : Prop :=
  ∀ r r' : Fin 64, x2 (ix2 r r') = ((if r.val / 16 < r'.val / 16 ∧ r.val % 16 < r'.val % 16 then 1 else 0 : ℝ) : EReal)

/-- A block of 16 rows cut out of a taller stack. -/
theorem rows_at {n : ℕ} (x : FVec Ideal ⟨3, ![32, n, 512]⟩ .f32) (o : ℕ) (hs : (⟨3, ![32, n, 512]⟩ : Shape).Slices ![0, o, 0] ⟨3, ![32, 16, 512]⟩)
    (d : Fin 32) (r : Fin 16) (w : Fin 512) (R : Fin n) (hR : R.val = o + r.val) :
    extractStridedSlice ⟨3, ![32, 16, 512]⟩ ![0, o, 0] x hs (ix3 d r w) = x (ix3 d R w) := by
  refine extractStridedSlice_apply _ _ _ _ _ fun a => ?_
  match a with
  | ⟨0, _⟩ => exact (Nat.zero_add _).symm
  | ⟨1, _⟩ => exact hR
  | ⟨2, _⟩ => exact (Nat.zero_add _).symm

/-- A row's sum up to a column. -/
abbrev P (X : A0) (b c : ℕ) (d : Fin 32) (R w : ℕ) : ℝ := Seg.pre 512 (V X b c d R) w

/-- A stack of row sums holds, for each channel and row of a category, the sum of that row. -/
def RowSums (X : A0) (b c : ℕ) (y : FVec Ideal S32x64 .f32) : Prop :=
  ∀ (d : Fin 32) (R : Fin 64), y (ix2 d R) = ((∑ w : Fin 512, V X b c d R.val w.val : ℝ) : EReal)

/-- Sixteen columns cut out, at a column. -/
theorem cut_at (y : FVec Ideal S32x64 .f32) (o : ℕ) (hs : S32x64.Slices ![0, o] S32x16) (d : Fin 32) (r : Fin 16) (R : Fin 64) (hR : R.val = o + r.val) :
    extractStridedSlice S32x16 ![0, o] y hs (ix2 d r) = y (ix2 d R) := by
  refine extractStridedSlice_apply _ _ hs _ _ fun a => ?_
  match a with
  | ⟨0, _⟩ => exact (Nat.zero_add _).symm
  | ⟨1, _⟩ => exact hR

/-- The sum over 16 columns. -/
theorem sum16 (z : FVec Ideal S32x16 .f32) (hφ : FKind.Formats FTy.f32) (hacc : (0x00000000#32 : BitVec FTy.f32.bits) = FKind.add.neutral FTy.f32 hφ) (d : Fin 32) :
    multiReduction .add [1] S32 z 0x00000000#32 reduces_S32x16_S32 hφ hacc (ix1 d) = ∑ r : Fin 16, z (ix2 d r) := by
  refine (Ideal.multiReduction_add_single z _ reduces_S32x16_S32 hφ hacc (ix1 d)).trans ?_
  have el : ∀ r : Fin 16, reduces_S32x16_S32.lift (ix1 d) r = ix2 d r := fun r => by
    funext a
    match a with
    | ⟨0, _⟩ => rfl
    | ⟨1, _⟩ => rfl
  exact Finset.sum_congr rfl fun r _ => congrArg z (el r)

/-- A segment's sum in one channel, as the kernel lays it out. -/
theorem seg_col {X : A0} {b c : ℕ} {y : FVec Ideal S32x64 .f32} (hy : RowSums X b c y) (o s : ℕ) (hs : S32x64.Slices ![0, o] S32x16) (ho : o = s * 16)
    (hs4 : s < 4) (hφ : FKind.Formats FTy.f32) (hacc : (0x00000000#32 : BitVec FTy.f32.bits) = FKind.add.neutral FTy.f32 hφ) (d : Fin 32) (u : Fin 1) :
    shapeCast S32x1 (multiReduction .add [1] S32 (extractStridedSlice S32x16 ![0, o] y hs) 0x00000000#32 reduces_S32x16_S32 hφ hacc)
      shapeCasts_S32_S32x1 (ix2 d u) = (seg X b c s d : EReal) := by
  refine (shapeCast_apply _ shapeCasts_S32_S32x1 (ix2 d u) (ix1 d) ?_).trans ?_
  · rw [Shape.rowMajor_val_one, Shape.rowMajor_val_two]
    show d.val = d.val * 1 + u.val
    omega
  · rw [sum16]
    unfold seg
    rw [Seg.sum_rows 16 512 rfl, Pix.coe_sum]
    refine Finset.sum_congr rfl fun r _ => ?_
    rw [cut_at y o hs d r ⟨s * 16 + r.val, by omega⟩ (by subst ho; rfl), hy]
    refine congrArg _ (Finset.sum_congr rfl fun w _ => ?_)
    have e1 : (r.val * 512 + w.val) / 512 = r.val := by omega
    have e2 : (r.val * 512 + w.val) % 512 = w.val := by omega
    rw [e1, e2]

/-- Sums and products of entries that are reals. -/
theorem addf_real {s : Shape} {x y : FVec Ideal s .f32} {i : s.Idx} {p q : ℝ} (hx : x i = (p : EReal)) (hy : y i = (q : EReal)) :
    addf x y i = ((p + q : ℝ) : EReal) := by
  rw [addf_apply, hx, hy, EReal.coe_add]

theorem mulf_real {s : Shape} {x y : FVec Ideal s .f32} {i : s.Idx} {p q : ℝ} (hx : x i = (p : EReal)) (hy : y i = (q : EReal)) :
    mulf x y i = ((p * q : ℝ) : EReal) := by
  rw [mulf_apply, hx, hy, EReal.coe_mul]

section Block

variable {X : A0} {b c : ℕ} {x0 : Vec Ideal S1x32x64x512 .f32} (h : Rows X b c x0)
include h

/-- The sum of a row. -/
theorem pay14_at (d : Fin 32) (R : Fin 64) :
    k0_pay14 (F := Ideal) (k0_pay8 x0) (ix2 d R) = ((∑ w : Fin 512, V X b c d R.val w.val : ℝ) : EReal) := by
  unfold k0_pay14
  refine (Ideal.multiReduction_add_single (k0_pay8 (F := Ideal) x0) _ reduces_S32x64x512_S32x64 _ _ (ix2 d R)).trans ?_
  rw [Pix.coe_sum]
  have e : ∀ w : Fin 512, reduces_S32x64x512_S32x64.lift (ix2 d R) w = ix3 d R w := fun w => by
    funext a
    match a with
    | ⟨0, _⟩ => rfl
    | ⟨1, _⟩ => rfl
    | ⟨2, _⟩ => rfl
  exact Finset.sum_congr rfl fun w _ => (congrArg _ (e w)).trans (pay8_at h d R w)

/-- The block's sum of squared lengths of the segments' sums. -/
theorem pay16_eq : k0_pay16 (F := Ideal) (k0_pay8 x0) = ((∑ s : Fin 4, segSq X b c s.val : ℝ) : EReal) := by
  unfold k0_pay16
  refine (total2 (n0 := 32) (n1 := 1) _ _ _ _ _ _ _ _).trans ?_
  have e : (∑ s : Fin 4, segSq X b c s.val) = ∑ d : Fin 32, ((seg X b c 0 d * seg X b c 0 d + seg X b c 1 d * seg X b c 1 d)
      + seg X b c 2 d * seg X b c 2 d + seg X b c 3 d * seg X b c 3 d) := by
    unfold segSq
    rw [Finset.sum_comm]
    refine Finset.sum_congr rfl fun d _ => ?_
    rw [Fin.sum_univ_four]
    rfl
  rw [e, Pix.coe_sum]
  refine Finset.sum_congr rfl fun d _ => ?_
  have hy : RowSums X b c (k0_pay14 (F := Ideal) (k0_pay8 x0)) := pay14_at h
  rw [Fin.sum_univ_one]
  have c0 := seg_col hy 0 0 slices_S32x64_o0_0_S32x16 rfl (by omega) (.inl rfl) rfl d 0
  have c1 := seg_col hy 16 1 slices_S32x64_o0_16_S32x16 rfl (by omega) (.inl rfl) rfl d 0
  have c2 := seg_col hy 32 2 slices_S32x64_o0_32_S32x16 rfl (by omega) (.inl rfl) rfl d 0
  have c3 := seg_col hy 48 3 slices_S32x64_o0_48_S32x16 rfl (by omega) (.inl rfl) rfl d 0
  exact addf_real (addf_real (addf_real (mulf_real c0 c0) (mulf_real c1 c1)) (mulf_real c2 c2)) (mulf_real c3 c3)

variable {x1 : Vec Ideal S512x512 .f32} (h1 : Upto x1)
include h1

/-- The product with the first matrix sums each row up to each column. -/
theorem pay9_at (d : Fin 32) (R : Fin 48) (w : Fin 512) : k0_pay9 (F := Ideal) x0 x1 (ix3 d R w) = (P X b c d R.val w.val : EReal) := by
  unfold k0_pay9
  refine (Ideal.matmul_constant_zero_apply dot_S32x48x512_S512x512_S32x48x512_2_0_01_1_n_n none _ _ _).trans ?_
  rw [← Equiv.sum_comp (contrEquiv1 dot_S32x48x512_S512x512_S32x48x512_2_0_01_1_n_n 512 rfl rfl).symm]
  unfold P Seg.pre
  rw [Pix.coe_sum]
  refine Finset.sum_congr rfl fun k _ => ?_
  have el : extractStridedSlice S32x48x512 ![0, 0, 0] (k0_pay8 (F := Ideal) x0) slices_S32x64x512_o0_0_0_S32x48x512
      (dot_S32x48x512_S512x512_S32x48x512_2_0_01_1_n_n.lhsIdx (ix3 d R w)
        ((contrEquiv1 dot_S32x48x512_S512x512_S32x48x512_2_0_01_1_n_n 512 rfl rfl).symm k)) = (V X b c d R.val k.val : EReal) := by
    refine (extractStridedSlice_apply _ _ _ _ (ix3 d (⟨R.val, by omega⟩ : Fin 64) k) fun a => ?_).trans (pay8_at h d _ k)
    match a with
    | ⟨0, _⟩ => exact (Nat.zero_add _).symm
    | ⟨1, _⟩ => exact (Nat.zero_add _).symm
    | ⟨2, _⟩ => exact (Nat.zero_add _).symm
  have er : shapeCast S512x512 x1 shapeCasts_S512x512_S512x512
      (dot_S32x48x512_S512x512_S32x48x512_2_0_01_1_n_n.rhsIdx (ix3 d R w)
        ((contrEquiv1 dot_S32x48x512_S512x512_S32x48x512_2_0_01_1_n_n 512 rfl rfl).symm k)) = ((if k.val ≤ w.val then 1 else 0 : ℝ) : EReal) := by
    rw [shapeCast_self]
    refine (congrArg x1 ?_).trans (h1 k w)
    funext a
    match a with
    | ⟨0, _⟩ => rfl
    | ⟨1, _⟩ => rfl
  rw [el, er, ← EReal.coe_mul]
  congr 1
  split_ifs
  · rw [mul_one]
  · rw [mul_zero]

/-- The pair sums within a row, of the second and third segments with the segments before them. -/
theorem pay12_at (d : Fin 32) (r : Fin 16) (w : Fin 512) : k0_pay12 (F := Ideal) x0 x1 (ix3 d r w)
    = ((P X b c d r.val w.val * V X b c d (16 + r.val) w.val
        + (P X b c d r.val w.val + P X b c d (16 + r.val) w.val) * V X b c d (2 * 16 + r.val) w.val : ℝ) : EReal) := by
  unfold k0_pay12 k0_pay11 k0_pay10
  rw [addf_apply, mulf_apply, mulf_apply, addf_apply]
  rw [rows_at (n := 48) _ 0 _ d r w ⟨r.val, by omega⟩ (Nat.zero_add _).symm, rows_at (n := 48) _ 16 _ d r w ⟨16 + r.val, by omega⟩ rfl,
    rows_at (n := 64) _ 16 _ d r w ⟨16 + r.val, by omega⟩ rfl, rows_at (n := 64) _ 32 _ d r w ⟨2 * 16 + r.val, by omega⟩ rfl,
    pay9_at h h1, pay9_at h h1, pay8_at h, pay8_at h]
  simp only [EReal.coe_add, EReal.coe_mul]

/-- The pair sums within a row, of the fourth segment with the three before it. -/
theorem pay13_at (d : Fin 32) (r : Fin 16) (w : Fin 512) : k0_pay13 (F := Ideal) x0 x1 (ix3 d r w)
    = (((P X b c d r.val w.val + P X b c d (16 + r.val) w.val + P X b c d (2 * 16 + r.val) w.val) * V X b c d (3 * 16 + r.val) w.val : ℝ) : EReal) := by
  unfold k0_pay13 k0_pay11 k0_pay10
  rw [mulf_apply, addf_apply, addf_apply]
  rw [rows_at (n := 48) _ 0 _ d r w ⟨r.val, by omega⟩ (Nat.zero_add _).symm, rows_at (n := 48) _ 16 _ d r w ⟨16 + r.val, by omega⟩ rfl,
    rows_at (n := 48) _ 32 _ d r w ⟨2 * 16 + r.val, by omega⟩ rfl, rows_at (n := 64) _ 48 _ d r w ⟨3 * 16 + r.val, by omega⟩ rfl,
    pay9_at h h1, pay9_at h h1, pay9_at h h1, pay8_at h]
  simp only [EReal.coe_add, EReal.coe_mul]

variable {x2 : Vec Ideal S64x64 .f32} (h2 : Above x2)

omit h1 in
include h2 in
/-- The product with the second matrix: the rows above, of the earlier segments. -/
theorem cross_at (d : Fin 32) (R' : Fin 64) :
    matmul dot_S32x64_S64x64_S32x64_1_0_0_1_n_n none (k0_pay14 (F := Ideal) (k0_pay8 x0)) (shapeCast S64x64 x2 shapeCasts_S64x64_S64x64 : FVec Ideal S64x64 .f32)
      (constant S32x64 .f32 0x00000000#32) (ix2 d R')
      = ((∑ R : Fin 64, (∑ w : Fin 512, V X b c d R.val w.val) * (if R.val / 16 < R'.val / 16 ∧ R.val % 16 < R'.val % 16 then 1 else 0) : ℝ) : EReal) := by
  refine (Ideal.matmul_constant_zero_apply dot_S32x64_S64x64_S32x64_1_0_0_1_n_n none _ _ _).trans ?_
  rw [← Equiv.sum_comp (contrEquiv1 dot_S32x64_S64x64_S32x64_1_0_0_1_n_n 64 rfl rfl).symm, Pix.coe_sum]
  refine Finset.sum_congr rfl fun k _ => ?_
  have el : k0_pay14 (F := Ideal) (k0_pay8 x0) (dot_S32x64_S64x64_S32x64_1_0_0_1_n_n.lhsIdx (ix2 d R')
        ((contrEquiv1 dot_S32x64_S64x64_S32x64_1_0_0_1_n_n 64 rfl rfl).symm k)) = ((∑ w : Fin 512, V X b c d k.val w.val : ℝ) : EReal) := by
    refine (congrArg _ ?_).trans (pay14_at h d k)
    funext a
    match a with
    | ⟨0, _⟩ => rfl
    | ⟨1, _⟩ => rfl
  have er : shapeCast S64x64 x2 shapeCasts_S64x64_S64x64 (dot_S32x64_S64x64_S32x64_1_0_0_1_n_n.rhsIdx (ix2 d R')
        ((contrEquiv1 dot_S32x64_S64x64_S32x64_1_0_0_1_n_n 64 rfl rfl).symm k))
      = ((if k.val / 16 < R'.val / 16 ∧ k.val % 16 < R'.val % 16 then 1 else 0 : ℝ) : EReal) := by
    rw [shapeCast_self]
    refine (congrArg x2 ?_).trans (h2 k R')
    funext a
    match a with
    | ⟨0, _⟩ => rfl
    | ⟨1, _⟩ => rfl
  rw [el, er, ← EReal.coe_mul]

include h2 in
/-- The block's pair sums. -/
theorem pay15_eq : k0_pay15 (F := Ideal) (k0_pay8 x0) (k0_pay12 x0 x1) (k0_pay13 x0 x1) x2
    = ((∑ i : Fin 4, ∑ j : Fin 4, if i.val < j.val then pairs X b c i.val j.val else 0 : ℝ) : EReal) := by
  have key : (∑ i : Fin 4, ∑ j : Fin 4, if i.val < j.val then pairs X b c i.val j.val else 0)
      = ∑ d : Fin 32, ∑ i : Fin 4, ∑ j : Fin 4, if i.val < j.val then Seg.pairTerm 16 512 (fun R => V X b c d (i.val * 16 + R)) (fun R => V X b c d (j.val * 16 + R)) else 0 := by
    symm
    rw [Finset.sum_comm]
    refine Finset.sum_congr rfl fun i _ => ?_
    rw [Finset.sum_comm]
    refine Finset.sum_congr rfl fun j _ => ?_
    unfold pairs
    split_ifs
    · rfl
    · exact Finset.sum_const_zero
  rw [key, Finset.sum_congr rfl fun d _ => (Seg.six_pairs 16 512 (V X b c d)).symm, Finset.sum_add_distrib, EReal.coe_add]
  unfold k0_pay15
  refine (Ideal.scalar_addf_def _ _).trans ?_
  refine congrArg₂ (fun p q : EReal => p + q) ?_ ?_
  · refine (total3 (n0 := 32) (n1 := 16) (n2 := 512) _ _ _ _ _ _ _ _).trans ?_
    simp only [Pix.coe_sum]
    refine Finset.sum_congr rfl fun d _ => Finset.sum_congr rfl fun r _ => Finset.sum_congr rfl fun w _ => ?_
    rw [addf_apply, pay12_at h h1, pay13_at h h1, ← EReal.coe_add]
  · refine (total2 (n0 := 32) (n1 := 64) _ _ _ _ _ _ _ _).trans ?_
    rw [Pix.coe_sum]
    refine Finset.sum_congr rfl fun d _ => ?_
    have e : ∀ R' : Fin 64, mulf (matmul dot_S32x64_S64x64_S32x64_1_0_0_1_n_n none (k0_pay14 (F := Ideal) (k0_pay8 x0))
        (shapeCast S64x64 x2 shapeCasts_S64x64_S64x64 : FVec Ideal S64x64 .f32) (constant S32x64 .f32 0x00000000#32)) (k0_pay14 (F := Ideal) (k0_pay8 x0)) (ix2 d R')
        = (((∑ R : Fin 64, (∑ w : Fin 512, V X b c d R.val w.val) * (if R.val / 16 < R'.val / 16 ∧ R.val % 16 < R'.val % 16 then 1 else 0))
            * ∑ w : Fin 512, V X b c d R'.val w.val : ℝ) : EReal) := fun R' => by
      rw [mulf_apply, cross_at h h2, pay14_at h, ← EReal.coe_mul]
    refine (Finset.sum_congr rfl fun R' _ => e R').trans ?_
    rw [← Pix.coe_sum, Seg.sum_rows 4 16 rfl]
    refine congrArg _ (Finset.sum_congr rfl fun j _ => Finset.sum_congr rfl fun r' _ => ?_)
    rw [Seg.sum_rows 4 16 rfl]
    refine congrArg (· * _) (Finset.sum_congr rfl fun i _ => Finset.sum_congr rfl fun r _ => ?_)
    have e1 : (i.val * 16 + r.val) / 16 = i.val := by omega
    have e2 : (i.val * 16 + r.val) % 16 = r.val := by omega
    have e3 : (j.val * 16 + r'.val) / 16 = j.val := by omega
    have e4 : (j.val * 16 + r'.val) % 16 = r'.val := by omega
    simp only [e1, e2, e3, e4]

end Block

end Cert.KerPairs

end
-- ==== Proof.KerHost.lean ====
/- What the host hands the kernel: the two matrices of zeros and ones. -/
module

public import proofs.«01_k».proof.Proof.KerPairs
public import proofs.«01_k».proof.Proof.Gen.KernelIdeal.Frame
public import Idealize.ShloMosaic.Lib.StableHlo.Run
public import Idealize.ShloMosaic.Lib.StableHlo.RunRead
public import Idealize.ShloMosaic.Lib.Routing.Words

@[expose] public section

noncomputable section

namespace Cert.KerHost

open Idealize.ShloMosaic Idealize.ShloMosaic.TcCoe Idealize.ShloMosaic.ValueIdx Idealize.SL.Sem Cert.KernelIdeal Cert.KernelIdeal.Gen Cert.KerPairs

variable (m : (ℓ : Loc nD τ sig) → Buf (Elt Ideal) ℓ)

/-- A truth value read as a real. -/
theorem bit_real (p : Prop) [Decidable p] : FloatOps.uitofp (F := Ideal) .f32 (BitVec.ofBool (decide p)) = ((if p then 1 else 0 : ℝ) : EReal) := by
  by_cases hp : p
  · rw [if_pos hp, decide_eq_true hp]
    show (((1#1).toNat : ℝ) : EReal) = _
    simp
  · rw [if_neg hp, decide_eq_false hp]
    show (((0#1).toNat : ℝ) : EReal) = _
    simp

theorem v6_eq (c : Dev nD) : V m c main_v6 = (uitofp .f32 (cmpi .sle
    (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))) : FVec Ideal S512x512 .f32) := by
  show StableHlo.after (List.flatten [hostOps0, hostOps0_1, hostOps0_2, hostOps0_3, hostOps0_4, hostOps0_5, hostOps0_6, hostOps0_7, hostOps0_8]) _ (Proc.devRef .tc main_v6) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp

theorem v23_eq (c : Dev nD) : V m c main_v23 = (uitofp .f32 (andi
    (cmpi .slt
      (broadcastInDim S64x64 ![0, 1] bcast_S64x1_S64x64_0_1 (Routing.pyDiv bcast_S_S64x1 (broadcastInDim S64x1 ![0] bcast_S64_S64x1_0 (iotaInDim S64 32 0)) (constantI S_ 32 16#32)))
      (broadcastInDim S64x64 ![0, 1] bcast_S1x64_S64x64_0_1 (Routing.pyDiv bcast_S_S1x64 (broadcastInDim S1x64 ![1] bcast_S64_S1x64_1 (iotaInDim S64 32 0)) (constantI S_ 32 16#32))))
    (cmpi .slt
      (broadcastInDim S64x64 ![0, 1] bcast_S64x1_S64x64_0_1 (Routing.pyRem bcast_S_S64x1 (broadcastInDim S64x1 ![0] bcast_S64_S64x1_0 (iotaInDim S64 32 0)) (constantI S_ 32 16#32)))
      (broadcastInDim S64x64 ![0, 1] bcast_S1x64_S64x64_0_1 (Routing.pyRem bcast_S_S1x64 (broadcastInDim S1x64 ![1] bcast_S64_S1x64_1 (iotaInDim S64 32 0)) (constantI S_ 32 16#32))))) : FVec Ideal S64x64 .f32) := by
  show StableHlo.after (List.flatten [hostOps0, hostOps0_1, hostOps0_2, hostOps0_3, hostOps0_4, hostOps0_5, hostOps0_6, hostOps0_7, hostOps0_8]) _ (Proc.devRef .tc main_v23) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

theorem upto (c : Dev nD) : Upto (V m c main_v6) := fun k w => by
  rw [v6_eq]
  refine Eq.trans ?_ (bit_real (k.val ≤ w.val))
  show FloatOps.uitofp (F := Ideal) .f32 (IntOp.cmpi .sle (BitVec.ofNat 32 k.val) (BitVec.ofNat 32 w.val)) = _
  rw [WordCmp.cmpi_sle_ofNat (by omega) (by omega)]

theorem above (c : Dev nD) : Above (V m c main_v23) := fun r r' => by
  rw [v23_eq]
  refine Eq.trans ?_ (bit_real (r.val / 16 < r'.val / 16 ∧ r.val % 16 < r'.val % 16))
  have hr := r.isLt
  have hr' := r'.isLt
  have d1 := Routing.pyDiv_ap bcast_S_S64x1 (broadcastInDim S64x1 ![0] bcast_S64_S64x1_0 (iotaInDim S64 32 0)) (constantI S_ 32 16#32) (ix2 r (0 : Fin 1))
    (a := r.val) (b := 16) rfl rfl (by omega) (by omega) (by omega)
  have d2 := Routing.pyDiv_ap bcast_S_S1x64 (broadcastInDim S1x64 ![1] bcast_S64_S1x64_1 (iotaInDim S64 32 0)) (constantI S_ 32 16#32) (ix2 (0 : Fin 1) r')
    (a := r'.val) (b := 16) rfl rfl (by omega) (by omega) (by omega)
  have m1 := Routing.pyRem_ap bcast_S_S64x1 (broadcastInDim S64x1 ![0] bcast_S64_S64x1_0 (iotaInDim S64 32 0)) (constantI S_ 32 16#32) (ix2 r (0 : Fin 1))
    (a := r.val) (b := 16) rfl rfl (by omega) (by omega) (by omega)
  have m2 := Routing.pyRem_ap bcast_S_S1x64 (broadcastInDim S1x64 ![1] bcast_S64_S1x64_1 (iotaInDim S64 32 0)) (constantI S_ 32 16#32) (ix2 (0 : Fin 1) r')
    (a := r'.val) (b := 16) rfl rfl (by omega) (by omega) (by omega)
  have col : ∀ x : IVec S64x1 32, broadcastInDim S64x64 ![0, 1] bcast_S64x1_S64x64_0_1 x (ix2 r r') = x (ix2 r (0 : Fin 1)) := fun x => by
    refine congrArg x (funext fun a => ?_)
    match a with
    | ⟨0, _⟩ => rfl
    | ⟨1, _⟩ => rfl
  have row : ∀ x : IVec S1x64 32, broadcastInDim S64x64 ![0, 1] bcast_S1x64_S64x64_0_1 x (ix2 r r') = x (ix2 (0 : Fin 1) r') := fun x => by
    refine congrArg x (funext fun a => ?_)
    match a with
    | ⟨0, _⟩ => rfl
    | ⟨1, _⟩ => rfl
  show FloatOps.uitofp (F := Ideal) .f32 (IntOp.andi (IntOp.cmpi .slt (broadcastInDim S64x64 _ _ _ (ix2 r r')) (broadcastInDim S64x64 _ _ _ (ix2 r r')))
    (IntOp.cmpi .slt (broadcastInDim S64x64 _ _ _ (ix2 r r')) (broadcastInDim S64x64 _ _ _ (ix2 r r')))) = _
  rw [col, row, col, row, d1, d2, m1, m2, WordCmp.cmpi_slt_ofNat (by omega) (by omega), WordCmp.cmpi_slt_ofNat (by omega) (by omega)]
  refine congrArg _ ?_
  by_cases p : r.val / 16 < r'.val / 16
  · by_cases q : r.val % 16 < r'.val % 16
    · simp only [p, q, and_self, decide_true]; rfl
    · simp only [p, q, and_false, decide_true, decide_false]; rfl
  · simp only [p, false_and, decide_false]
    by_cases q : r.val % 16 < r'.val % 16
    · simp only [q, decide_true]; rfl
    · simp only [q, decide_false]; rfl

end Cert.KerHost

end
-- ==== Proof.Lanes.lean ====
/- The kernel's output array: for every image and every class, four numbers in the first four of 128 lanes. -/
module

public import proofs.«01_k».proof.Proof.Terms

@[expose] public section

noncomputable section

namespace Cert.Lanes

open Idealize.ShloMosaic Cert.Spec Cert.Terms

/-- The number in lane `k` for image `b` and class `c`: the radial error, the squared lengths of the segments' sums, the
    summed squared lengths, and the pair sums. -/
def lane (X : A0) (b c k : ℕ) : EReal :=
  if k = 0 then ∑ r : Fin 64, ∑ w : Fin 512, err X c b (c * 64 + r.val) w.val
  else if k = 1 then ((∑ s : Fin 4, segSq X b c s.val : ℝ) : EReal)
  else if k = 2 then ((∑ s : Fin 4, diag X b c s.val : ℝ) : EReal)
  else if k = 3 then ((∑ i : Fin 4, ∑ j : Fin 4, if i.val < j.val then pairs X b c i.val j.val else 0 : ℝ) : EReal)
  else 0

/-- The output array. -/
def lanes (X : A0) : FVec Ideal ⟨4, ![4, 8, 1, 128]⟩ .f32 := fun y => lane X (y 0).val (y 1).val (y 3).val

end Cert.Lanes

end
-- ==== Proof.KerArr.lean ====
/- What the kernel leaves in its output array: for every image and every class, four numbers in the first four lanes. -/
module

public import proofs.«01_k».proof.Proof.KerHost
public import proofs.«01_k».proof.Proof.Lanes
public import Idealize.ShloMosaic.Lib.Pipeline.ValueKit
public import Idealize.ShloMosaic.Lib.Claim

@[expose] public section

noncomputable section

namespace Cert.KerArr

open Idealize.ShloMosaic Idealize.ShloMosaic.TcCoe Idealize.ShloMosaic.ValueIdx Idealize.SL.Sem Cert.KernelIdeal Cert.KernelIdeal.Gen Cert.Spec Cert.Terms Cert.Lanes Cert.KerUnit Cert.KerPairs
open Idealize.ShloMosaic.Pipeline (Dat)

/-- A choice made by comparing a lane's number with a literal. -/
theorem pick (k : Fin 128) (n : ℕ) (hn : n < 128) (a b : EReal) :
    (if IntOp.cmpi .eq (BitVec.ofNat 32 k.val) (BitVec.ofNat 32 n) = 1#1 then a else b) = if k.val = n then a else b := by
  have hk := k.isLt
  by_cases h : k.val = n
  · rw [if_pos h, if_pos ((WordCmp.cmpi_eq_ofNat_eq_one_iff (by omega) (by omega)).mpr h)]
  · rw [if_neg h, if_neg fun e => h ((WordCmp.cmpi_eq_ofNat_eq_one_iff (by omega) (by omega)).mp e)]

/-- The row of 128 lanes a block writes back. -/
theorem row_at (e0 e1 e2 e3 : Ideal .f32) (y : S1x1x1x128.Idx) :
    k0_pay1 (F := Ideal) e0 e2 e3 e1 (iota .tc S1x128 32 [1] iota_S1x128_d1_w32) k0_pay17 k0_pay18 k0_pay19 3#32 y
      = (if (y 3).val = 0 then e0 else if (y 3).val = 1 then e1 else if (y 3).val = 2 then e2 else if (y 3).val = 3 then e3 else 0 : EReal) := by
  unfold k0_pay1 k0_pay17 k0_pay18 k0_pay19
  dsimp only
  have h0 : (y 0).val < 1 := (y 0).isLt
  have h1 : (y 1).val < 1 := (y 1).isLt
  have h2 : (y 2).val < 1 := (y 2).isLt
  refine (shapeCast_apply _ _ y (ValueIdx.ix2 (0 : Fin 1) (y 3 : Fin 128) : S1x128.Idx) ?_).trans ?_
  · rw [Shape.rowMajor_val_two, Shape.rowMajor_val_four]
    show 0 * 128 + (y 3).val = (((y 0).val * 1 + (y 1).val) * 1 + (y 2).val) * 128 + (y 3).val
    omega
  · rw [← pick (y 3) 0 (by omega), ← pick (y 3) 1 (by omega), ← pick (y 3) 2 (by omega), ← pick (y 3) 3 (by omega), ← Ideal.ofBits_zero_f32]
    show (if IntOp.cmpi .eq (iota .tc S1x128 32 [1] iota_S1x128_d1_w32 (ValueIdx.ix2 (0 : Fin 1) (y 3 : Fin 128))) 0#32 = 1#1 then e0
      else if IntOp.cmpi .eq (iota .tc S1x128 32 [1] iota_S1x128_d1_w32 (ValueIdx.ix2 (0 : Fin 1) (y 3 : Fin 128))) 1#32 = 1#1 then e1
      else if IntOp.cmpi .eq (iota .tc S1x128 32 [1] iota_S1x128_d1_w32 (ValueIdx.ix2 (0 : Fin 1) (y 3 : Fin 128))) 2#32 = 1#1 then e2
      else if IntOp.cmpi .eq (iota .tc S1x128 32 [1] iota_S1x128_d1_w32 (ValueIdx.ix2 (0 : Fin 1) (y 3 : Fin 128))) 3#32 = 1#1 then e3
      else Ideal.ofBits .f32 0x00000000#32 : EReal) = _
    rw [iota_single_apply]

variable (m : (ℓ : Loc nD τ sig) → Buf (Elt Ideal) ℓ)

theorem idx0 : ∀ t : Fin cfg0.N, win0_0.index t = ![(grid0.coords t 0).val, 0, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, (grid0.coords t 1).val, 0, 0] := (by decide +kernel : ∀ t : Fin grid0.N, _)

/-- The block of a point: all channels of the rows of its class in its image. -/
theorem rows (c : Dev nD) (t : Fin cfg0.N) :
    Rows (m ((c : Thread nD τ).loc main_arg0)) (grid0.coords t 0).val (grid0.coords t 1).val (iblk m c 0 t) := fun d r w => by
  unfold iblk
  rw [View.read_apply]
  refine (congrFun (V_main_arg0 m c) _).trans ?_
  apply eq_px
  · blk_simp [idx0 t]
  · blk_simp [idx0 t]
  · blk_simp [idx0 t]
  · blk_simp [idx0 t]

theorem whole1 (c : Dev nD) (t : Fin cfg0.N) : Upto (iblk m c 1 t) := fun k w => by
  refine Eq.trans ?_ (KerHost.upto m c k w)
  unfold iblk
  rw [View.read_apply]
  show V m c main_v6 _ = V m c main_v6 _
  refine congrArg _ (funext fun a => Fin.ext ?_)
  match a with
  | ⟨0, _⟩ => blk_simp [idx1 t]
  | ⟨1, _⟩ => blk_simp [idx1 t]

theorem whole2 (c : Dev nD) (t : Fin cfg0.N) : Above (iblk m c 2 t) := fun k w => by
  refine Eq.trans ?_ (KerHost.above m c k w)
  unfold iblk
  rw [View.read_apply]
  show V m c main_v23 _ = V m c main_v23 _
  refine congrArg _ (funext fun a => Fin.ext ?_)
  match a with
  | ⟨0, _⟩ => blk_simp [idx2 t]
  | ⟨1, _⟩ => blk_simp [idx2 t]

/-- The row of lanes of a block, from what the block holds. -/
theorem block_out (X : A0) (b c : ℕ) (i : grid0.Coords) (x0 : Vec Ideal S1x32x64x512 .f32) (x1 : Vec Ideal S512x512 .f32) (x2 : Vec Ideal S64x64 .f32)
    (h : Rows X b c x0) (h1 : Upto x1) (h2 : Above x2) (hi : (i 1).val = c) (hc : c < 8) (y : S1x1x1x128.Idx) :
    k0_pay1 (F := Ideal) (k0_pay6 i x0) (k0_pay7 x0) (k0_pay15 (k0_pay8 x0) (k0_pay12 x0 x1) (k0_pay13 x0 x1) x2) (k0_pay16 (k0_pay8 x0))
      (iota .tc S1x128 32 [1] iota_S1x128_d1_w32) k0_pay17 k0_pay18 k0_pay19 3#32 y = lane X b c (y 3).val := by
  rw [pay6_eq h i hi hc, pay7_eq h, pay15_eq h h1 h2, pay16_eq h]
  exact row_at _ _ _ _ y

theorem arr (c : Dev nD) : (dats m 0 c).arrAt 3 cfg0.N = lanes (m ((c : Thread nD τ).loc main_arg0)) := by
  refine (dats m 0 c).arrAt_eq_of_covers 3 _ (by decide +kernel) fun t hf y => ?_
  blk_simp
  rw [after0_3]
  have hz : (![0, 0, 0, 0] : Fin 4 → ℕ) = fun _ => 0 := by funext a; fin_cases a <;> rfl
  have hz2 : (![0, 0] : Fin 2 → ℕ) = fun _ => 0 := by funext a; fin_cases a <;> rfl
  unfold_out out0_3
  rw [View.canon_unit_zero hz, View.ld_unit_zero hz, View.ld_unit_zero hz2, View.ld_unit_zero hz2]
  refine (block_out (m ((c : Thread nD τ).loc main_arg0)) _ _ (grid0.coords t) _ _ _ (rows m c t) (whole1 m c t) (whole2 m c t) rfl (grid0.coords t 1).isLt y).trans ?_
  unfold lanes
  have h0 : (y 0).val < 1 := (y 0).isLt
  have h1 : (y 1).val < 1 := (y 1).isLt
  have h2 : (y 2).val < 1 := (y 2).isLt
  have e0 : ((((cfg0.win 3).blk t).view.emb y) 0 : ℕ) = (grid0.coords t 0).val := by blk_simp [idx3 t]
  have e1 : ((((cfg0.win 3).blk t).view.emb y) 1 : ℕ) = (grid0.coords t 1).val := by blk_simp [idx3 t]
  have e3 : ((((cfg0.win 3).blk t).view.emb y) 3 : ℕ) = (y 3).val := by blk_simp [idx3 t]
  rw [e0, e1, e3]

end Cert.KerArr

end
-- ==== Proof.Masks.lean ====
/- What the precondition says of the annotation masks: channel 0 of a pixel in row `r` is the word of `r / 16`, and
   channel 1 the word of `r / 16 / 4`. From that, the reference's two flattened masks read at a pixel. -/
module

public import proofs.«01_k».proof.Pre_masks_as_drawn
public import proofs.«01_k».proof.Proof.Gen.ReferenceIdeal.Read
public import Idealize.ShloMosaic.Lib.ValueIdxCore
public import Idealize.ShloMosaic.Lib.Routing.Words
public import Idealize.ShloMosaic.Lib.WordCmp

@[expose] public section

noncomputable section

namespace Cert.Masks

open Idealize.ShloMosaic Idealize.ShloMosaic.ValueIdx

/-- The annotation array: batch, channel, row, column. -/
abbrev A1 : Type := IVec ⟨4, ![4, 3, 512, 512]⟩ 32

/-- The masks are the ones drawn: channel 0 numbers the bands of 16 rows, channel 1 the bands of 64 rows. -/
structure Drawn (a1 : A1) : Prop where
  seg : ∀ j, (j 1).val = 0 → a1 j = BitVec.ofNat 32 ((j 2).val / 16)
  cat : ∀ j, (j 1).val = 1 → a1 j = BitVec.ofNat 32 ((j 2).val / 16 / 4)

theorem and_one {x y : BitVec 1} (h : IntOp.andi x y = 1#1) : x = 1#1 ∧ y = 1#1 := by
  revert x y; decide

theorem eq_of_cmpi {x y : BitVec 32} (h : IntOp.cmpi .eq x y = 1#1) : x = y := by
  rw [WordCmp.cmpi_eq_eq] at h
  by_contra hn
  simp [hn] at h

/-- The precondition's bit at every pixel says the masks are the ones drawn. -/
theorem drawn [Cert.Pre_masks_as_drawn.Facts] (a0 : FVec Ideal ⟨4, ![4, 32, 512, 512]⟩ .f32) (a1 : A1) (a2 : IVec ⟨0, ![]⟩ 32)
    (h : Cert.Pre_masks_as_drawn.fn (F := Ideal) a0 a1 a2 = fun _ => 1#1) : Drawn a1 := by
  have hd : ∀ r : Fin 512, IntOp.divsi .host (BitVec.ofNat 32 r.val) 16#32 = BitVec.ofNat 32 (r.val / 16) := fun r =>
    Routing.divsi_word .host (b := 16) (by omega) (by decide) (by decide)
  have hd4 : ∀ r : Fin 512, IntOp.divsi .host (BitVec.ofNat 32 (r.val / 16)) 4#32 = BitVec.ofNat 32 (r.val / 16 / 4) := fun r =>
    Routing.divsi_word .host (b := 4) (by omega) (by decide) (by decide)
  have key : ∀ (b : Fin 4) (r w : Fin 512), a1 (ix4 b 0 r w) = BitVec.ofNat 32 (r.val / 16) ∧
      a1 (ix4 b 1 r w) = BitVec.ofNat 32 (r.val / 16 / 4) := by
    intro b r w
    obtain ⟨h0, h1⟩ := and_one (congrFun h (ix3 b r w))
    have e0 := eq_of_cmpi h0
    have e1 := eq_of_cmpi h1
    rw [shapeCast_apply _ _ (ix3 b r w) (ix4 b 0 r w) (by rw [Shape.rowMajor_val_four, Shape.rowMajor_val_three]; simp [ix4, ix3])] at e0 e1
    beta_reduce at e0 e1
    rw [extractStridedSlice_apply _ _ _ (ix4 b 0 r w) (ix4 b 0 r w) (fun a => match a with
      | ⟨0, _⟩ => (Nat.zero_add _).symm | ⟨1, _⟩ => rfl | ⟨2, _⟩ => (Nat.zero_add _).symm | ⟨3, _⟩ => (Nat.zero_add _).symm)] at e0
    rw [extractStridedSlice_apply _ _ _ (ix4 b 0 r w) (ix4 b 1 r w) (fun a => match a with
      | ⟨0, _⟩ => (Nat.zero_add _).symm | ⟨1, _⟩ => rfl | ⟨2, _⟩ => (Nat.zero_add _).symm | ⟨3, _⟩ => (Nat.zero_add _).symm)] at e1
    have e0' : a1 (ix4 b 0 r w) = IntOp.divsi .host (BitVec.ofNat 32 r.val) 16#32 := e0
    have e1' : a1 (ix4 b 1 r w) = IntOp.divsi .host (IntOp.divsi .host (BitVec.ofNat 32 r.val) 16#32) 4#32 := e1
    rw [hd] at e0' e1'
    rw [hd4] at e1'
    exact ⟨e0', e1'⟩
  refine ⟨fun j hj => ?_, fun j hj => ?_⟩
  · have e : j = ix4 (j 0) 0 (j 2) (j 3) := funext fun a => Fin.ext (match a with
      | ⟨0, _⟩ => rfl | ⟨1, _⟩ => hj | ⟨2, _⟩ => rfl | ⟨3, _⟩ => rfl)
    rw [e]; exact (key (j 0) (j 2) (j 3)).1
  · have e : j = ix4 (j 0) 1 (j 2) (j 3) := funext fun a => Fin.ext (match a with
      | ⟨0, _⟩ => rfl | ⟨1, _⟩ => hj | ⟨2, _⟩ => rfl | ⟨3, _⟩ => rfl)
    rw [e]; exact (key (j 0) (j 2) (j 3)).2

open Cert.ReferenceIdeal Cert.ReferenceIdeal.Read

variable [Cert.ReferenceIdeal.Facts]

/-- The reference's flattened segment mask at pixel `P` of image `b`. -/
theorem seg_at {a1 : A1} (h : Drawn a1) (b : Fin 4) (P : Fin 262144) :
    val_main_v4 (F := Ideal) a1 (ix2 b P) = BitVec.ofNat 32 (P.val / 8192) := by
  rw [val_main_v4_apply, val_main_v3_apply, val_main_v2_apply, h.seg _ rfl]
  refine congrArg _ ?_
  show ((((b.val * 262144 + P.val) / 262144 * 512 + (b.val * 262144 + P.val) / 512 % 512) * 512 +
    (b.val * 262144 + P.val) % 512) / 512 % 512) / 16 = P.val / 8192
  omega

/-- The reference's flattened category mask at pixel `P` of image `b`. -/
theorem cat_at {a1 : A1} (h : Drawn a1) (b : Fin 4) (P : Fin 262144) :
    val_main_v7 (F := Ideal) a1 (ix2 b P) = BitVec.ofNat 32 (P.val / 32768) := by
  rw [val_main_v7_apply, val_main_v6_apply, val_main_v5_apply, h.cat _ rfl]
  refine congrArg _ ?_
  show ((((b.val * 262144 + P.val) / 262144 * 512 + (b.val * 262144 + P.val) / 512 % 512) * 512 +
    (b.val * 262144 + P.val) % 512) / 512 % 512) / 16 / 4 = P.val / 32768
  omega

end Cert.Masks

end
-- ==== Proof.HostReads.lean ====
/- Four host operations of the reference read at an index: a sort whose keys are already in order (it moves nothing), a
   gather along one axis under a batch axis, a sum of updates scattered by a bucket number, and a running sum from the end
   of an axis (a reversed running sum over the reversed axis). -/
module

public import Idealize.ShloMosaic.Lib.ValueIdxCore
public import Idealize.ShloMosaic.PureOps.Ideal.Laws

@[expose] public section

noncomputable section

namespace Cert.HostReads

open Idealize.ShloMosaic Idealize.ShloMosaic.ValueIdx

/-! ## A sort of keys already in order -/

/-- A list in which no later entry sorts before an earlier one is its own stable sort. -/
theorem stableSort_of_sorted {ι : Type} (before : ι → ι → Bool) (l : List ι)
    (h : l.Pairwise fun a b => before b a = false) : stableSort before l = l := by
  induction l with
  | nil => rfl
  | cons a l ih =>
    rw [List.pairwise_cons] at h
    rw [stableSort, ih h.2]
    cases l with
    | nil => rfl
    | cons b l => rw [insertBefore, h.1 b (List.mem_cons_self ..)]; rfl

/-- So the sorting permutation of positions already in order is the identity. -/
theorem sortedFrom_of_sorted {n : ℕ} (before : Fin n → Fin n → Bool) (h : ∀ a b : Fin n, a < b → before b a = false) (k : Fin n) :
    sortedFrom before k = k := by
  have hs : sortPositions n before = List.finRange n :=
    stableSort_of_sorted before _ ((List.pairwise_lt_finRange n).imp fun hab => h _ _ hab)
  unfold sortedFrom
  rw [List.get_eq_getElem]
  simp only [hs]
  exact List.getElem_finRange _

/-- The payload of a two-operand sort along the last axis of a matrix whose keys are in order along each row. -/
theorem sort2_snd_of_sorted {n0 n1 : ℕ} {α β : Type} (cmp : α × β → α × β → BitVec 1) (x : (⟨2, ![n0, n1]⟩ : Shape).Idx → α)
    (y : (⟨2, ![n0, n1]⟩ : Shape).Idx → β)
    (h : ∀ (a : Fin n0) (k k' : Fin n1), k < k' → cmp (x (ix2 a k'), y (ix2 a k')) (x (ix2 a k), y (ix2 a k)) ≠ 1#1)
    (j : (⟨2, ![n0, n1]⟩ : Shape).Idx) : (Host.sort2 ⟨2, ![n0, n1]⟩ 1 cmp x y).2 j = y j := by
  have along : ∀ k : Fin n1, j.along (1 : Fin 2) k = ix2 (j 0) k := by
    intro k; funext a
    match a with
    | ⟨0, _⟩ => rfl
    | ⟨1, _⟩ => rfl
  unfold Host.sort2
  rw [dif_pos (show 1 < (⟨2, ![n0, n1]⟩ : Shape).rank from Nat.one_lt_two)]
  refine (congrArg (fun k => y (j.along (1 : Fin 2) k)) (sortedFrom_of_sorted _ ?_ (j 1))).trans (congrArg y ((along _).trans (eq_ix2 j).symm))
  intro a b hab
  show (cmp (x (j.along (1 : Fin 2) b), y (j.along (1 : Fin 2) b)) (x (j.along (1 : Fin 2) a), y (j.along (1 : Fin 2) a)) == 1#1) = false
  rw [along b, along a]
  exact beq_eq_false_iff_ne.2 (h (j 0) a b hab)

/-! ## A gather along the middle axis -/

/-- Dimension numbers of a gather that picks, per batch and place, one row of 32 (or `D`) entries by a row number. -/
abbrev rowDims (B N D : ℕ) (wf : GatherDims.WF ⟨3, ![B, N, D]⟩ ⟨3, ![B, N, 1]⟩ ⟨3, ![B, N, D]⟩ [2] [1] [0] [1] [0] 2 ![1, 1, D]) :
    GatherDims ⟨3, ![B, N, D]⟩ ⟨3, ![B, N, 1]⟩ ⟨3, ![B, N, D]⟩ where
  offsetDims := [2]
  collapsedSliceDims := [1]
  operandBatchingDims := [0]
  startIndicesBatchingDims := [0]
  startIndexMap := [1]
  indexVectorDim := 2
  sliceSizes := ![1, 1, D]
  wf := wf

/-- That gather at `(b, n, d)` where the row number is `n` itself: the operand there. -/
theorem gather_rows_self {α : Type} {B N D w : ℕ}
    (wf : GatherDims.WF ⟨3, ![B, N, D]⟩ ⟨3, ![B, N, 1]⟩ ⟨3, ![B, N, D]⟩ [2] [1] [0] [1] [0] 2 ![1, 1, D])
    (x : (⟨3, ![B, N, D]⟩ : Shape).Idx → α) (idx : IVec ⟨3, ![B, N, 1]⟩ w) (b : Fin B) (n : Fin N) (d : Fin D)
    (h : (idx (ix3 b n 0)).toInt = (n.val : ℤ)) :
    Host.gather (rowDims B N D wf) x idx (ix3 b n d) = x (ix3 b n d) := by
  unfold Host.gather
  congr 1
  funext a
  refine Fin.ext ?_
  show (rowDims B N D wf).start (ix3 b n d) idx a + (rowDims B N D wf).batchCoord (ix3 b n d) a
      + (rowDims B N D wf).offCoord (ix3 b n d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N D wf).startIndexMap from List.mem_singleton.mpr rfl)]
    have hsi : (rowDims B N D wf).siIdx (ix3 b n d) ⟨List.idxOf (1 : Fin 3) (rowDims B N D wf).startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi, h]
    show min n.val (N - 1) = n.val
    have := n.isLt; omega
  · have h2 : (rowDims B N D wf).start (ix3 b n d) idx 2 = 0 := by
      unfold GatherDims.start
      rw [dif_neg (fun h => by simp at h)]
    rw [h2, GatherDims.batchCoord_eq_zero _ _ _ (fun h => by simp at h)]
    simp only [Nat.zero_add]
    unfold GatherDims.offCoord
    rw [dif_pos ((GatherDims.mem_sKept _ _).mpr ⟨fun h => by simp at h, fun h => by simp at h⟩)]
    rfl

/-! ## Updates added up by bucket -/

/-- Dimension numbers of a scatter of `N` updates into `n` buckets, one bucket number each. -/
abbrev bucketDims (n N : ℕ) (wf : ScatterDims.WF ⟨1, ![n]⟩ ⟨2, ![N, 1]⟩ ⟨1, ![N]⟩ [] [0] [0] 1) :
    ScatterDims ⟨1, ![n]⟩ ⟨2, ![N, 1]⟩ ⟨1, ![N]⟩ where
  updateWindowDims := []
  insertedWindowDims := [0]
  scatterDimsToOperandDims := [0]
  indexVectorDim := 1
  wf := wf

/-- An update lands in the bucket its number names. -/
theorem bucket_iff {n N w : ℕ} (wf : ScatterDims.WF ⟨1, ![n]⟩ ⟨2, ![N, 1]⟩ ⟨1, ![N]⟩ [] [0] [0] 1)
    (idx : IVec ⟨2, ![N, 1]⟩ w) (j : Fin N) (i : Fin n) :
    (bucketDims n N wf).resultIdx? (ix1 j) idx = some (ix1 i) ↔ (idx (ix2 j 0)).toInt = (i.val : ℤ) := by
  have hw : (bucketDims n N wf).window (ix1 j) 0 = 0 := by
    unfold ScatterDims.window
    rw [dif_neg (fun h => by simp [ScatterDims.sKept, Shape.kept] at h)]
  have hs : (bucketDims n N wf).start (ix1 j) idx 0 = (idx (ix2 j 0)).toInt := by
    unfold ScatterDims.start
    rw [dif_pos (show (0 : Fin 1) ∈ (bucketDims n N wf).scatterDimsToOperandDims from List.mem_singleton.mpr rfl)]
    have hsi : (bucketDims n N wf).siIdx (ix1 j) ⟨List.idxOf (0 : Fin 1) (bucketDims n N wf).scatterDimsToOperandDims,
        List.idxOf_lt_length_iff.2 (List.mem_singleton.mpr rfl)⟩ = ix2 j 0 := by
      funext c; refine Fin.ext ?_
      match c with
      | ⟨0, _⟩ => rfl
      | ⟨1, _⟩ => rfl
    rw [hsi]
  unfold ScatterDims.resultIdx?
  constructor
  · intro h
    split at h
    case isTrue hin =>
      have h0 := congrArg (fun o : (⟨1, ![n]⟩ : Shape).Idx => (o 0).val) (Option.some.inj h)
      have hin0 := hin 0
      simp only [hw, hs, Nat.cast_zero, add_zero] at h0 hin0
      have h1 : (ix1 i 0 : Fin n).val = i.val := rfl
      have h0' : (idx (ix2 j 0)).toInt.toNat = i.val := h0
      omega
    case isFalse => exact absurd h (by simp)
  · intro h
    have hi := i.isLt
    have hin : ∀ a : Fin 1, 0 ≤ (bucketDims n N wf).start (ix1 j) idx a + ((bucketDims n N wf).window (ix1 j) a : ℤ)
        ∧ (bucketDims n N wf).start (ix1 j) idx a + ((bucketDims n N wf).window (ix1 j) a : ℤ) < ((![n] a : ℕ) : ℤ) := by
      intro a
      obtain rfl : a = 0 := Subsingleton.elim _ _
      rw [hw, hs, h]
      show 0 ≤ (i.val : ℤ) + ((0 : ℕ) : ℤ) ∧ (i.val : ℤ) + ((0 : ℕ) : ℤ) < (n : ℤ)
      omega
    rw [dif_pos hin]
    congr 1
    funext a
    obtain rfl : a = 0 := Subsingleton.elim _ _
    refine Fin.ext ?_
    show ((bucketDims n N wf).start (ix1 j) idx 0 + ((bucketDims n N wf).window (ix1 j) 0 : ℤ)).toNat = i.val
    rw [hw, hs, h]; omega

/-- The one-coordinate indices of a vector are its places. -/
def idxEquiv1 (n : ℕ) : (⟨1, ![n]⟩ : Shape).Idx ≃ Fin n where
  toFun j := j 0
  invFun k := ix1 k
  left_inv j := (eq_ix1 j).symm
  right_inv _ := rfl

/-- A sum over a vector's indices is the sum over its places. -/
theorem sum_idx1 {M : Type*} [AddCommMonoid M] {n : ℕ} (f : (⟨1, ![n]⟩ : Shape).Idx → M) : ∑ j, f j = ∑ k : Fin n, f (ix1 k) :=
  (Equiv.sum_comp (idxEquiv1 n).symm f).symm

/-- The scattered sum at a bucket: what was there plus the updates whose number names it. -/
theorem scatterAdd_bucket {n N w : ℕ} (wf : ScatterDims.WF ⟨1, ![n]⟩ ⟨2, ![N, 1]⟩ ⟨1, ![N]⟩ [] [0] [0] 1)
    (x : (⟨1, ![n]⟩ : Shape).Idx → EReal) (idx : IVec ⟨2, ![N, 1]⟩ w) (upd : (⟨1, ![N]⟩ : Shape).Idx → EReal) (i : Fin n) :
    Ideal.hostScatterAdd (bucketDims n N wf) x idx upd (ix1 i)
      = x (ix1 i) + ∑ j : Fin N, if (idx (ix2 j 0)).toInt = (i.val : ℤ) then upd (ix1 j) else 0 := by
  unfold Ideal.hostScatterAdd
  congr 1
  rw [Finset.sum_filter, sum_idx1]
  exact Finset.sum_congr rfl fun j _ => by simp only [bucket_iff wf idx j i]

/-! ## A running sum from the end of an axis -/

/-- A left fold of additions is the initial value plus the sum. -/
theorem foldl_add_sum {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of one place on four axes and `N` places on the fourth is an interval of `N` places. -/
def windowEquiv (N : ℕ) : (⟨5, ![1, 1, 1, N, 1]⟩ : Shape).Idx ≃ Fin N where
  toFun w := w 3
  invFun k := ix5 0 0 0 k 0
  left_inv w := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
    | ⟨4, _⟩ => exact (Subsingleton.elim (α := Fin 1) _ _)
  right_inv _ := rfl

/-- A running sum along the fourth axis written as a sum over windows padded below with zeros. -/
theorem windowSum_apply {n0 n1 n2 N M n4 : ℕ} (hM : N = M + 1)
    (h : (⟨5, ![n0, n1, n2, N, n4]⟩ : Shape).ReduceWindows ![1, 1, 1, N, 1] ![1, 1, 1, 1, 1] ![0, 0, 0, M, 0] ![0, 0, 0, 0, 0] ⟨5, ![n0, n1, n2, N, n4]⟩)
    (x : (⟨5, ![n0, n1, n2, N, n4]⟩ : Shape).Idx → EReal) (a : Fin n0) (b : Fin n1) (c : Fin n2) (p : Fin N) (e : Fin n4) :
    Ideal.hostReduceWindowAdd ![1, 1, 1, N, 1] ![1, 1, 1, 1, 1] ![0, 0, 0, M, 0] ![0, 0, 0, 0, 0] h x 0 (ix5 a b c p e)
      = ∑ k : Fin N, if hk : M ≤ p.val + k.val then x (ix5 a b c ⟨p.val + k.val - M, by have := p.isLt; have := k.isLt; omega⟩ e) else 0 := by
  unfold Ideal.hostReduceWindowAdd Host.reduceWindow
  rw [foldl_add_sum, zero_add, ← List.ofFn_eq_map, List.sum_ofFn]
  rw [← Equiv.sum_comp (⟨5, ![1, 1, 1, N, 1]⟩ : Shape).rowMajor, ← Equiv.sum_comp (windowEquiv N).symm]
  refine Finset.sum_congr rfl fun k _ => ?_
  have hz : ∀ w : (⟨5, ![1, 1, 1, N, 1]⟩ : Shape).Idx, (⟨5, ![1, 1, 1, N, 1]⟩ : Shape).rowMajor.symm ((⟨5, ![1, 1, 1, N, 1]⟩ : Shape).rowMajor w) = w :=
    fun w => Equiv.symm_apply_apply _ _
  simp only [hz]
  by_cases hk : M ≤ p.val + k.val
  · rw [dif_pos hk]
    have hin : ∀ d : Fin 5, (![0, 0, 0, M, 0] : Fin 5 → ℕ) d ≤ (ix5 a b c p e d).val * (![1, 1, 1, 1, 1] : Fin 5 → ℕ) d + ((windowEquiv N).symm k d).val
        ∧ (ix5 a b c p e d).val * (![1, 1, 1, 1, 1] : Fin 5 → ℕ) d + ((windowEquiv N).symm k d).val - (![0, 0, 0, M, 0] : Fin 5 → ℕ) d < (![n0, n1, n2, N, n4] : Fin 5 → ℕ) d := by
      intro d
      match d with
      | ⟨0, _⟩ => show 0 ≤ a.val * 1 + 0 ∧ a.val * 1 + 0 - 0 < n0; have := a.isLt; omega
      | ⟨1, _⟩ => show 0 ≤ b.val * 1 + 0 ∧ b.val * 1 + 0 - 0 < n1; have := b.isLt; omega
      | ⟨2, _⟩ => show 0 ≤ c.val * 1 + 0 ∧ c.val * 1 + 0 - 0 < n2; have := c.isLt; omega
      | ⟨3, _⟩ => show M ≤ p.val * 1 + k.val ∧ p.val * 1 + k.val - M < N; have := p.isLt; have := k.isLt; omega
      | ⟨4, _⟩ => show 0 ≤ e.val * 1 + 0 ∧ e.val * 1 + 0 - 0 < n4; have := e.isLt; omega
    refine (dif_pos hin).trans ?_
    congr 1
    funext d
    refine Fin.ext ?_
    match d with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ => show p.val * 1 + k.val - M = p.val + k.val - M; omega
    | ⟨4, _⟩ => show e.val * 1 + 0 - 0 = e.val; omega
  · rw [dif_neg hk]
    refine dif_neg fun hin => hk ?_
    have h3 := (hin 3).1
    have h3' : M ≤ p.val * 1 + k.val := h3
    omega

/-- The places from `p` on, counted from the end. -/
theorem sum_from_end {N M : ℕ} (hM : N = M + 1) (p : Fin N) (f : Fin N → EReal) :
    (∑ k : Fin N, if hk : M ≤ p.rev.val + k.val then f (Fin.rev ⟨p.rev.val + k.val - M, by have := p.rev.isLt; have := k.isLt; omega⟩) else 0)
      = ∑ q : Fin N, if p.val ≤ q.val then f q else 0 := by
  have hr : p.rev.val = M - p.val := by rw [Fin.val_rev]; omega
  let σ : Fin N → Fin N := fun k => if h : p.val ≤ k.val then ⟨M + p.val - k.val, by have := k.isLt; omega⟩ else k
  have hσ : ∀ k, (σ k).val = if p.val ≤ k.val then M + p.val - k.val else k.val := fun k => by
    show (dite _ _ _ : Fin N).val = _
    split_ifs <;> rfl
  have hinv : Function.Involutive σ := by
    intro k; refine Fin.ext ?_
    have := k.isLt
    by_cases hk : p.val ≤ k.val
    · have h1 : (σ k).val = M + p.val - k.val := by rw [hσ, if_pos hk]
      rw [hσ, if_pos (by omega)]; omega
    · have h1 : (σ k).val = k.val := by rw [hσ, if_neg hk]
      rw [hσ, if_neg (by omega)]; exact h1
  rw [← Equiv.sum_comp hinv.toPerm (fun q => if p.val ≤ q.val then f q else 0)]
  refine Finset.sum_congr rfl fun k _ => ?_
  have hk' := k.isLt
  have hp' := p.isLt
  show _ = if p.val ≤ (σ k).val then f (σ k) else 0
  by_cases hk : p.val ≤ k.val
  · rw [dif_pos (by omega), if_pos (by rw [hσ, if_pos hk]; omega)]
    congr 1; refine Fin.ext ?_
    rw [hσ, if_pos hk, Fin.val_rev]
    show N - (p.rev.val + k.val - M + 1) = _
    omega
  · rw [dif_neg (by omega), if_neg (by rw [hσ, if_neg hk]; omega)]

/-- Reversing the fourth axis. -/
theorem reverse_apply3 {α : Type} {n0 n1 n2 N n4 : ℕ} (x : (⟨5, ![n0, n1, n2, N, n4]⟩ : Shape).Idx → α) (a : Fin n0) (b : Fin n1) (c : Fin n2)
    (p : Fin N) (e : Fin n4) : Host.reverse [3] x (ix5 a b c p e) = x (ix5 a b c p.rev e) := by
  unfold Host.reverse
  refine congrArg x (funext fun d => ?_)
  have h5 : d = (0 : Fin 5) ∨ d = (1 : Fin 5) ∨ d = (2 : Fin 5) ∨ d = (3 : Fin 5) ∨ d = (4 : Fin 5) :=
    (by decide : ∀ d : Fin 5, d = 0 ∨ d = 1 ∨ d = 2 ∨ d = 3 ∨ d = 4) d
  rcases h5 with rfl | rfl | rfl | rfl | rfl
  · exact if_neg (show ¬ (0 : Fin 5) ∈ ([3] : List (Fin 5)) by decide)
  · exact if_neg (show ¬ (1 : Fin 5) ∈ ([3] : List (Fin 5)) by decide)
  · exact if_neg (show ¬ (2 : Fin 5) ∈ ([3] : List (Fin 5)) by decide)
  · exact if_pos (show (3 : Fin 5) ∈ ([3] : List (Fin 5)) by decide)
  · exact if_neg (show ¬ (4 : Fin 5) ∈ ([3] : List (Fin 5)) by decide)

/-- Reverse, running sum, reverse: the sum from a place to the end. -/
theorem sum_to_end {n0 n1 n2 N M n4 : ℕ} (hM : N = M + 1)
    (h : (⟨5, ![n0, n1, n2, N, n4]⟩ : Shape).ReduceWindows ![1, 1, 1, N, 1] ![1, 1, 1, 1, 1] ![0, 0, 0, M, 0] ![0, 0, 0, 0, 0] ⟨5, ![n0, n1, n2, N, n4]⟩)
    (x : (⟨5, ![n0, n1, n2, N, n4]⟩ : Shape).Idx → EReal) (a : Fin n0) (b : Fin n1) (c : Fin n2) (p : Fin N) (e : Fin n4) :
    Host.reverse [3] (Ideal.hostReduceWindowAdd ![1, 1, 1, N, 1] ![1, 1, 1, 1, 1] ![0, 0, 0, M, 0] ![0, 0, 0, 0, 0] h (Host.reverse [3] x) 0) (ix5 a b c p e)
      = ∑ q : Fin N, if p.val ≤ q.val then x (ix5 a b c q e) else 0 := by
  rw [reverse_apply3, windowSum_apply hM]
  refine Eq.trans (Finset.sum_congr rfl fun k _ => ?_) (sum_from_end hM p fun q => x (ix5 a b c q e))
  split_ifs
  · exact reverse_apply3 x a b c _ e
  · rfl

end Cert.HostReads

end
-- ==== Proof.RefUnit.lean ====
/- The reference's pixels in segment order. The masks are drawn in row order, so the sort by segment number moves nothing and
   the pick along it returns each pixel itself; the quotient by the length is the pixel's unit vector. -/
module

public import proofs.«01_k».proof.Proof.Masks
public import proofs.«01_k».proof.Proof.HostReads
public import proofs.«01_k».proof.Proof.Spec
public import Idealize.ShloMosaic.Lib.ReduceAll

@[expose] public section

noncomputable section

namespace Cert.RefUnit

open Idealize.ShloMosaic Idealize.ShloMosaic.ValueIdx Cert.ReferenceIdeal Cert.ReferenceIdeal.Read Cert.Masks Cert.Spec

variable [Cert.ReferenceIdeal.Facts]

/-- The transposed image at pixel `P` of image `b`. -/
theorem v1_at (X : A0) (b : Fin 4) (P : Fin 262144) (d : Fin 32) :
    val_main_v1 (F := Ideal) X (ix3 b P d) = px X b.val (P.val / 512) (P.val % 512) d := by
  rw [val_main_v1_apply, val_main_v0_apply]
  refine eq_px X _ _ _ _ _ ?_ ?_ ?_ ?_
  · show ((b.val * 32 + d.val) * 262144 + P.val) / 8388608 = b.val; omega
  · show ((b.val * 32 + d.val) * 262144 + P.val) / 262144 % 32 = d.val; omega
  · show ((b.val * 32 + d.val) * 262144 + P.val) / 512 % 512 = P.val / 512; omega
  · show ((b.val * 32 + d.val) * 262144 + P.val) % 512 = P.val % 512; omega

variable {a1 : A1} (h : Drawn a1)
include h

/-- The sorting permutation is the identity. -/
theorem order_at (b : Fin 4) (P : Fin 262144) : val_main_v36 (F := Ideal) a1 (ix2 b P) = BitVec.ofNat 32 P.val := by
  unfold val_main_v36
  rw [HostReads.sort2_snd_of_sorted _ _ _ (fun a k k' hk => ?_)]
  · exact val_main_call1_v0_apply _
  · unfold comparator_i32_i32_d1
    rw [seg_at h, seg_at h]
    show IntOp.cmpi .slt (BitVec.ofNat 32 (k'.val / 8192)) (BitVec.ofNat 32 (k.val / 8192)) ≠ 1#1
    have hk' : k.val < k'.val := hk
    rw [Ne, WordCmp.cmpi_slt_ofNat_eq_one_iff (by omega) (by omega)]
    omega

theorem order3_at (b : Fin 4) (P : Fin 262144) (u : Fin 1) : val_main_v37 (F := Ideal) a1 (ix3 b P u) = BitVec.ofNat 32 P.val := by
  rw [val_main_v37_apply]
  exact order_at h b P

/-- The picked position, after the shift of negative ones. -/
theorem pick_at (b : Fin 4) (P : Fin 262144) (u : Fin 1) : val_main_call2_v4 (F := Ideal) a1 (ix3 b P u) = BitVec.ofNat 32 P.val := by
  rw [val_main_call2_v4_apply, val_main_call2_v1_apply, order3_at h, val_main_call2_v0_apply, val_main_call2_c_apply,
    show (0#32 : BitVec 32) = BitVec.ofNat 32 0 from rfl, (WordCmp.cmpi_slt_ofNat_eq_zero_iff (by omega) (by omega)).2 (by omega)]
  rfl

/-- Every picked position is in range. -/
theorem inside_at (i : S4x262144x1.Idx) : val_main_call2_v10 (F := Ideal) a1 i = 1#1 := by
  obtain ⟨b, P, u, rfl⟩ : ∃ (b : Fin 4) (P : Fin 262144) (u : Fin 1), i = ix3 b P u := ⟨i 0, i 1, i 2, eq_ix3 i⟩
  rw [val_main_call2_v10_apply, val_main_call2_v6_apply, val_main_call2_v9_apply, pick_at h, val_main_call2_v5_apply,
    val_main_call2_c_2_apply, val_main_call2_v8_apply, val_main_call2_v7_apply, val_main_call2_c_1_apply]
  rw [show (0#32 : BitVec 32) = BitVec.ofNat 32 0 from rfl, show (262143#32 : BitVec 32) = BitVec.ofNat 32 262143 from rfl,
    (WordCmp.cmpi_sle_ofNat_eq_one_iff (by omega) (by omega)).2 (by omega), WordCmp.cmpi_sge_ofNat (by omega) (by omega)]
  simp
  rfl

theorem inside_all_at (j : S4x262144.Idx) : val_main_call2_v11 (F := Ideal) a1 j = 1#1 := by
  unfold val_main_call2_v11
  exact Host.reduce_andi_one _ _ _ _ j rfl (inside_at h)

/-- The pick along the sorting permutation returns each pixel. -/
theorem v38_at (X : A0) (b : Fin 4) (P : Fin 262144) (d : Fin 32) :
    val_main_v38 (F := Ideal) X a1 (ix3 b P d) = px X b.val (P.val / 512) (P.val % 512) d := by
  have e : val_main_call2_v12 (F := Ideal) X a1 (ix3 b P d) = val_main_v1 (F := Ideal) X (ix3 b P d) := by
    unfold val_main_call2_v12
    refine HostReads.gather_rows_self _ _ _ b P d ?_
    rw [pick_at h]
    exact WordCmp.toInt_ofNat_of_lt (by omega)
  rw [val_main_v38_apply, val_main_call2_v13_apply, inside_all_at h, e, v1_at]
  rfl

/-- Position `p` of segment `4 * c + s`: the pixel in row `16 * (4 * c + s) + p / 512`, column `p % 512`. -/
theorem v39_at (X : A0) (b : Fin 4) (c : Fin 8) (s : Fin 4) (p : Fin 8192) (d : Fin 32) :
    val_main_v39 (F := Ideal) X a1 (ix5 b c s p d) = px X b.val ((c.val * 4 + s.val) * 16 + p.val / 512) (p.val % 512) d := by
  have e : idx_main_v39 (ix5 b c s p d) = ix3 b (⟨(c.val * 4 + s.val) * 8192 + p.val, by omega⟩ : Fin 262144) d := by
    funext a
    refine Fin.ext ?_
    match a with
    | ⟨0, _⟩ => show ((((b.val * 8 + c.val) * 4 + s.val) * 8192 + p.val) * 32 + d.val) / 8388608 = b.val; omega
    | ⟨1, _⟩ =>
      show ((((b.val * 8 + c.val) * 4 + s.val) * 8192 + p.val) * 32 + d.val) / 32 % 262144 = (c.val * 4 + s.val) * 8192 + p.val; omega
    | ⟨2, _⟩ => show ((((b.val * 8 + c.val) * 4 + s.val) * 8192 + p.val) * 32 + d.val) % 32 = d.val; omega
  have r : ((c.val * 4 + s.val) * 8192 + p.val) / 512 = (c.val * 4 + s.val) * 16 + p.val / 512 := by omega
  have w : ((c.val * 4 + s.val) * 8192 + p.val) % 512 = p.val % 512 := by omega
  rw [val_main_v39_apply, e, v38_at h, ← r, ← w]

/-- The squared length of that pixel. -/
theorem v40_at (X : A0) (b : Fin 4) (c : Fin 8) (s : Fin 4) (p : Fin 8192) :
    val_main_call3_v1 (F := Ideal) X a1 (ix4 b c s p) = Pix.nsq (px X b.val ((c.val * 4 + s.val) * 16 + p.val / 512) (p.val % 512)) := by
  rw [val_main_call3_v1_apply, val_main_call3_cst_apply]
  unfold Pix.nsq
  rw [show (FloatOps.ofBits FTy.f32 0x00000000#32 : Ideal .f32) = 0 from Ideal.ofBits_zero_f32, zero_add]
  refine Finset.sum_congr rfl fun d _ => ?_
  rw [val_main_call3_v0_apply, eq_ix5 (idx_main_call3_v1 _ d)]
  exact congrArg₂ (· * ·) (v39_at h X b c s p d) (v39_at h X b c s p d)

/-- The quotient is the unit vector. -/
theorem v44_at (X : A0) (b : Fin 4) (c : Fin 8) (s : Fin 4) (p : Fin 8192) (d : Fin 32) :
    val_main_v44 (F := Ideal) X a1 (ix5 b c s p d) = (U X b.val ((c.val * 4 + s.val) * 16 + p.val / 512) (p.val % 512) d : EReal) := by
  have e : idx_main_call3_v2 (idx_main_v43 (ix5 b c s p d)) = ix4 b c s p := by
    funext a
    match a with
    | ⟨0, _⟩ => rfl
    | ⟨1, _⟩ => rfl
    | ⟨2, _⟩ => rfl
    | ⟨3, _⟩ => rfl
  rw [val_main_v44_apply, val_main_v43_apply, val_main_v42_apply, val_main_v40_apply, val_main_v41_apply, val_main_cst_7_apply,
    val_main_call3_v2_apply, e, v39_at h, v40_at h, Ideal.hostDivf_def, Ideal.addf_def, Ideal.hostUnary_sqrt_def, Ideal.ofBits_def,
    eps_eq]
  exact U_div X b.val ((c.val * 4 + s.val) * 16 + p.val / 512) (p.val % 512) d

end Cert.RefUnit

end
-- ==== Proof.RefErr.lean ====
/- The reference's radial loss. Every category holds the same 131072 pixels; its mean is their radial errors' sum over that
   count. -/
module

public import proofs.«01_k».proof.Proof.RefUnit
public import proofs.«01_k».proof.Proof.Terms
public import Idealize.ShloMosaic.Lib.IdealHost

@[expose] public section

noncomputable section

namespace Cert.RefErr

open Idealize.ShloMosaic Idealize.ShloMosaic.ValueIdx Cert.ReferenceIdeal Cert.ReferenceIdeal.Read Cert.Masks Cert.Spec Cert.Terms Cert.RefUnit

/-- A sum over all pixels of one category, as a sum over the images and the category's rows. -/
theorem by_category (f : ℕ → EReal) (c : Fin 8) : (∑ j : Fin 1048576, if j.val % 262144 / 32768 = c.val then f j.val else 0)
    = ∑ b : Fin 4, ∑ r : Fin 64, ∑ w : Fin 512, f (b.val * 262144 + ((c.val * 64 + r.val) * 512 + w.val)) := by
  rw [Seg.sum_rows 4 262144 rfl]
  refine Finset.sum_congr rfl fun b _ => ?_
  rw [Seg.sum_rows 8 32768 rfl]
  rw [Finset.sum_eq_single c (fun c' _ hc => Finset.sum_eq_zero fun q _ => if_neg ?_) (fun hc => absurd (Finset.mem_univ c) hc)]
  · rw [Seg.sum_rows 64 512 rfl]
    refine Finset.sum_congr rfl fun r _ => Finset.sum_congr rfl fun w _ => ?_
    show (if (b.val * 262144 + (c.val * 32768 + (r.val * 512 + w.val))) % 262144 / 32768 = c.val then
      f (b.val * 262144 + (c.val * 32768 + (r.val * 512 + w.val))) else 0) = _
    rw [if_pos (by omega)]
    congr 1
    omega
  · show ¬ (b.val * 262144 + (c'.val * 32768 + q.val)) % 262144 / 32768 = c.val
    have : c'.val ≠ c.val := fun e => hc (Fin.ext e)
    omega

theorem ite_cast (a b : ℕ) (x : EReal) : (if (a : ℤ) = (b : ℤ) then x else 0) = if a = b then x else 0 := by
  by_cases hab : a = b
  · rw [if_pos hab, if_pos (congrArg _ hab)]
  · rw [if_neg hab, if_neg (fun e => hab (Int.ofNat_inj.1 e))]

variable [Cert.ReferenceIdeal.Facts]

/-- The scattered sums, as the sums over the buckets. -/
theorem scatter_at (x : S8.Idx → EReal) (idx : IVec S1048576x1 32) (upd : S1048576.Idx → EReal) (c : Fin 8) :
    Host.scatterAdd (F := Ideal) (φ := .f32) scatter_S8_S1048576x1_S1048576_n_0_0_1 x idx upd (ix1 c)
      = x (ix1 c) + ∑ j : Fin 1048576, if (idx (ix2 j 0)).toInt = (c.val : ℤ) then upd (ix1 j) else 0 :=
  HostReads.scatterAdd_bucket scatter_S8_S1048576x1_S1048576_n_0_0_1.wf x idx upd c

/-- The radius table. -/
theorem radius_at (c : Fin 8) : val_main_v12 (F := Ideal) (ix1 c) = 1 + 1 * ((c.val : ℝ) : EReal) := by
  rw [val_main_v12_apply, val_main_v10_apply, val_main_v11_apply, val_main_v9_apply, val_main_cst_apply, val_main_cst_0_apply,
    Ideal.addf_def, Ideal.mulf_def, Ideal.ofBits_def, Ideal.ofBits_one_f32]
  have e : val_main_v8 (F := Ideal) (ix1 c) = (((BitVec.ofNat 32 c.val).toInt : ℝ) : EReal) := rfl
  rw [e, WordCmp.toInt_ofNat_of_lt (by omega), Int.cast_natCast]

/-- The length of pixel `P` of image `b`. -/
theorem length_at (X : A0) (b : Fin 4) (P : Fin 262144) :
    val_main_v13 (F := Ideal) X (ix2 b P) = Ideal.sqrt (Pix.nsq (px X b.val (P.val / 512) (P.val % 512))) := by
  rw [val_main_v13_apply, val_main_call0_v1_apply, val_main_call0_cst_apply, Ideal.hostUnary_sqrt_def, Ideal.ofBits_def,
    Ideal.ofBits_zero_f32, zero_add]
  unfold Pix.nsq
  refine congrArg _ (Finset.sum_congr rfl fun d _ => ?_)
  have e : idx_main_call0_v1 (ix2 b P) d = ix3 b P d := by
    funext a
    match a with
    | ⟨0, _⟩ => rfl
    | ⟨1, _⟩ => rfl
    | ⟨2, _⟩ => rfl
  rw [e, val_main_call0_v0_apply, v1_at]
  rfl

variable {a1 : A1} (h : Drawn a1)
include h

/-- The radius picked for pixel `P`. -/
theorem picked_at (b : Fin 4) (P : Fin 262144) : val_main_v20 (F := Ideal) a1 (ix2 b P) = 1 + 1 * (((P.val / 32768 : ℕ) : ℝ) : EReal) := by
  have e : val_main_v19 (F := Ideal) a1 (takeIdx (ix2 b P)) = BitVec.ofNat 32 (P.val / 32768) := by
    have e1 : idx_main_v19 (takeIdx (ix2 b P)) = ix2 b P := by
      funext a
      match a with
      | ⟨0, _⟩ => rfl
      | ⟨1, _⟩ => rfl
    rw [val_main_v19_apply, e1, val_main_v18_apply, val_main_v15_apply, cat_at h, val_main_v14_apply, val_main_c_apply,
      show (0#32 : BitVec 32) = BitVec.ofNat 32 0 from rfl, (WordCmp.cmpi_slt_ofNat_eq_zero_iff (by omega) (by omega)).2 (by omega)]
    rfl
  have lt : P.val / 32768 < 8 := by omega
  rw [← radius_at ⟨P.val / 32768, lt⟩]
  unfold val_main_v20
  refine (gather_take_apply (by decide) _ _ _ (ix2 b P)).trans (congrArg _ (congrArg ix1 (Fin.ext ?_)))
  show min (val_main_v19 (F := Ideal) a1 (takeIdx (ix2 b P))).toInt.toNat (8 - 1) = P.val / 32768
  rw [e, WordCmp.toInt_ofNat_of_lt (by omega)]
  omega

/-- The radial error of pixel `P`. -/
theorem v22_at (X : A0) (b : Fin 4) (P : Fin 262144) :
    val_main_v22 (F := Ideal) X a1 (ix2 b P) = err X (P.val / 32768) b.val (P.val / 512) (P.val % 512) := by
  rw [val_main_v22_apply, val_main_v21_apply, length_at, picked_at h]
  rfl

theorem v24_at (X : A0) (j : Fin 1048576) : val_main_v24 (F := Ideal) X a1 (ix1 j)
    = err X (j.val % 262144 / 32768) (j.val / 262144) (j.val % 262144 / 512) (j.val % 262144 % 512) := by
  have e : idx_main_v24 (ix1 j) = ix2 (⟨j.val / 262144, by omega⟩ : Fin 4) (⟨j.val % 262144, by omega⟩ : Fin 262144) := by
    funext a
    match a with
    | ⟨0, _⟩ => rfl
    | ⟨1, _⟩ => rfl
  rw [val_main_v24_apply, e, v22_at h]

theorem v23_at (j : Fin 1048576) : val_main_v23 (F := Ideal) a1 (ix1 j) = BitVec.ofNat 32 (j.val % 262144 / 32768) := by
  have e : idx_main_v23 (ix1 j) = ix2 (⟨j.val / 262144, by omega⟩ : Fin 4) (⟨j.val % 262144, by omega⟩ : Fin 262144) := by
    funext a
    match a with
    | ⟨0, _⟩ => rfl
    | ⟨1, _⟩ => rfl
  rw [val_main_v23_apply, e, cat_at h]

theorem v26_at (j : Fin 1048576) : (val_main_v26 (F := Ideal) a1 (ix2 j 0)).toInt = ((j.val % 262144 / 32768 : ℕ) : ℤ) := by
  have e : idx_main_v26 (ix2 j 0) = ix1 j := by
    funext a
    match a with
    | ⟨0, _⟩ => rfl
  rw [val_main_v26_apply, e, v23_at h, WordCmp.toInt_ofNat_of_lt (by omega)]

theorem v30_at (j : Fin 1048576) : (val_main_v30 (F := Ideal) a1 (ix2 j 0)).toInt = ((j.val % 262144 / 32768 : ℕ) : ℤ) := by
  have e : idx_main_v30 (ix2 j 0) = ix1 j := by
    funext a
    match a with
    | ⟨0, _⟩ => rfl
  rw [val_main_v30_apply, e, v23_at h, WordCmp.toInt_ofNat_of_lt (by omega)]

/-- The radial errors gathered by category. -/
theorem v27_at (X : A0) (c : Fin 8) : val_main_v27 (F := Ideal) X a1 (ix1 c) = total X c.val := by
  unfold val_main_v27
  rw [scatter_at]
  rw [val_main_v25_apply, val_main_cst_2_apply, Ideal.ofBits_def, Ideal.ofBits_zero_f32, zero_add]
  unfold total
  refine Eq.trans ?_ ((by_category (fun j => err X (j % 262144 / 32768) (j / 262144) (j % 262144 / 512) (j % 262144 % 512)) c).trans ?_)
  · refine Finset.sum_congr rfl fun j _ => ?_
    rw [v26_at h, v24_at h, ite_cast]
  · refine Finset.sum_congr rfl fun b _ => Finset.sum_congr rfl fun r _ => Finset.sum_congr rfl fun w _ => ?_
    have e1 : (b.val * 262144 + ((c.val * 64 + r.val) * 512 + w.val)) % 262144 = (c.val * 64 + r.val) * 512 + w.val := by omega
    have e2 : (b.val * 262144 + ((c.val * 64 + r.val) * 512 + w.val)) / 262144 = b.val := by omega
    have e3 : ((c.val * 64 + r.val) * 512 + w.val) / 32768 = c.val := by omega
    have e4 : ((c.val * 64 + r.val) * 512 + w.val) / 512 = c.val * 64 + r.val := by omega
    have e5 : ((c.val * 64 + r.val) * 512 + w.val) % 512 = w.val := by omega
    simp only [e1, e2, e3, e4, e5]

/-- The pixel count of a category. -/
theorem v31_at (c : Fin 8) : val_main_v31 (F := Ideal) a1 (ix1 c) = ((131072 : ℝ) : EReal) := by
  unfold val_main_v31
  rw [scatter_at]
  rw [val_main_v29_apply, val_main_cst_4_apply, Ideal.ofBits_def, Ideal.ofBits_zero_f32, zero_add]
  refine Eq.trans ?_ ((by_category (fun _ => ((1 : ℝ) : EReal)) c).trans ?_)
  · refine Finset.sum_congr rfl fun j _ => ?_
    rw [v30_at h, val_main_v28_apply, val_main_cst_3_apply, Ideal.ofBits_def, Ideal.ofBits_one_f32, ite_cast, EReal.coe_one]
  · simp only [← Pix.coe_sum]
    refine congrArg _ ?_
    simp only [Finset.sum_const, Finset.card_univ, Fintype.card_fin, nsmul_eq_mul]
    norm_num

/-- The sum of the seven foreground categories' means. -/
theorem means_at (X : A0) : (∑ j : S7.Idx, val_main_v33 (F := Ideal) X a1 j : EReal)
    = ∑ c : Fin 7, Ideal.div (total X (1 + c.val)) ((131072 : ℝ) : EReal) := by
  rw [HostReads.sum_idx1 (n := 7) (fun j => val_main_v33 (F := Ideal) X a1 j)]
  refine Finset.sum_congr rfl fun c _ => ?_
  have e : idx_main_v33 (ix1 c) = ix1 (⟨1 + c.val, by omega⟩ : Fin 8) := by
    funext a
    match a with
    | ⟨0, _⟩ => rfl
  rw [val_main_v33_apply, e, val_main_v32_apply, v27_at h, v31_at h, Ideal.hostDivf_def]

/-- The reference's mean radial loss. -/
theorem v35_at (X : A0) (i : S_.Idx) : val_main_v35 (F := Ideal) X a1 i
    = Ideal.div (∑ c : Fin 7, Ideal.div (total X (1 + c.val)) ((131072 : ℝ) : EReal)) (Ideal.ofBits .f32 0x40E00000#32) := by
  rw [val_main_v35_apply, val_main_v34_apply, val_main_cst_5_apply, val_main_cst_6_apply, Ideal.hostDivf_def, Ideal.ofBits_def,
    Ideal.ofBits_zero_f32, zero_add, Ideal.ofBits_def, means_at h]

end Cert.RefErr

end
-- ==== Proof.RefLoss.lean ====
/- The reference's angular loss, as one real number: the sum over segments of one minus the segment's pair mean, plus the
   sum over ordered pairs of different segments of a category of the pair mean plus the margin. -/
module

public import proofs.«01_k».proof.Proof.RefUnit
public import proofs.«01_k».proof.Proof.Terms
public import proofs.«01_k».proof.Proof.Sums
public import Idealize.ShloMosaic.Lib.IdealHost
public import Idealize.ShloMosaic.Lib.TwoAxisContraction

@[expose] public section

noncomputable section

namespace Cert.RefLoss

open Idealize.ShloMosaic Idealize.ShloMosaic.ValueIdx Cert.ReferenceIdeal Cert.ReferenceIdeal.Read Cert.Masks Cert.Spec Cert.Terms Cert.RefUnit

variable [Cert.ReferenceIdeal.Facts] {a1 : A1} (h : Drawn a1)
include h

theorem unit_at (X : A0) (b : Fin 4) (c : Fin 8) (s : Fin 4) (p : Fin 8192) (d : Fin 32) :
    val_main_v44 (F := Ideal) X a1 (ix5 b c s p d) = (V X b.val c.val d (s.val * 16 + p.val / 512) (p.val % 512) : EReal) := by
  have e : (c.val * 4 + s.val) * 16 + p.val / 512 = c.val * 64 + (s.val * 16 + p.val / 512) := by omega
  rw [v44_at h, e]
  rfl

theorem v45_at (X : A0) (b : Fin 4) (c : Fin 8) (s : Fin 4) (d : Fin 32) :
    val_main_v45 (F := Ideal) X a1 (ix4 b c s d) = (seg X b.val c.val s.val d : EReal) := by
  rw [val_main_v45_apply, val_main_cst_8_apply, Ideal.ofBits_def, Ideal.ofBits_zero_f32, zero_add]
  unfold seg
  rw [Pix.coe_sum]
  refine Finset.sum_congr rfl fun p _ => ?_
  have e : idx_main_v45 (ix4 b c s d) p = ix5 b c s p d := by
    funext a
    match a with
    | ⟨0, _⟩ => rfl
    | ⟨1, _⟩ => rfl
    | ⟨2, _⟩ => rfl
    | ⟨3, _⟩ => rfl
    | ⟨4, _⟩ => rfl
  rw [e, unit_at h]

theorem v47_at (X : A0) (b : Fin 4) (c : Fin 8) (s : Fin 4) :
    val_main_v47 (F := Ideal) X a1 (ix3 b c s) = (segSq X b.val c.val s.val : EReal) := by
  rw [val_main_v47_apply, val_main_cst_9_apply, Ideal.ofBits_def, Ideal.ofBits_zero_f32, zero_add]
  unfold segSq
  rw [Pix.coe_sum]
  refine Finset.sum_congr rfl fun d _ => ?_
  have e : idx_main_v47 (ix3 b c s) d = ix4 b c s d := by
    funext a
    match a with
    | ⟨0, _⟩ => rfl
    | ⟨1, _⟩ => rfl
    | ⟨2, _⟩ => rfl
    | ⟨3, _⟩ => rfl
  rw [e, val_main_v46_apply, v45_at h, EReal.coe_mul]
  rfl

theorem v49_at (X : A0) (b : Fin 4) (c : Fin 8) (s : Fin 4) :
    val_main_v49 (F := Ideal) X a1 (ix3 b c s) = (diag X b.val c.val s.val : EReal) := by
  unfold val_main_v49
  rw [Host.reduceAdd, Ideal.hostReduceAdd_def]
  refine (Sums.host_last_two _ _ _ b c s).trans ?_
  rw [val_main_cst_10_apply, Ideal.ofBits_def, Ideal.ofBits_zero_f32, zero_add]
  unfold diag
  rw [Pix.coe_sum]
  refine Finset.sum_congr rfl fun p _ => ?_
  rw [Pix.coe_sum]
  refine Finset.sum_congr rfl fun d _ => ?_
  rw [val_main_v48_apply, unit_at h, EReal.coe_mul]
  rfl

/-- One minus a segment's pair mean. -/
theorem v54_at (X : A0) (b : Fin 4) (c : Fin 8) (s : Fin 4) : val_main_v54 (F := Ideal) X a1 (ix3 b c s)
    = ((1 - (segSq X b.val c.val s.val + diag X b.val c.val s.val) * (1 / 67117056) : ℝ) : EReal) := by
  rw [val_main_v54_apply, val_main_v53_apply, val_main_cst_12_apply, val_main_v52_apply, val_main_v50_apply, v47_at h, v49_at h,
    val_main_v51_apply, val_main_cst_11_apply, Ideal.ofBits_def, Ideal.ofBits_def, Ideal.ofBits_one_f32, word_count, Ideal.hostDivf_def,
    Ideal.addf_def, Ideal.subf_def, Ideal.div_coe (by norm_num), EReal.coe_sub, EReal.coe_mul, EReal.coe_add, EReal.coe_one]

/-- The first term of the angular loss. -/
theorem v55_at (X : A0) (i : S_.Idx) : val_main_v55 (F := Ideal) X a1 i
    = ((∑ b : Fin 4, ∑ c : Fin 8, ∑ s : Fin 4, (1 - (segSq X b.val c.val s.val + diag X b.val c.val s.val) * (1 / 67117056)) : ℝ) : EReal) := by
  rw [val_main_v55_apply, val_main_cst_13_apply, Ideal.ofBits_def, Ideal.ofBits_zero_f32, zero_add]
  refine (Sums.sum3 (n0 := 4) (n1 := 8) (n2 := 4) (fun j => val_main_v54 (F := Ideal) X a1 j)).trans ?_
  simp only [Pix.coe_sum, v54_at h]

/-- The running sum from the end of a segment. -/
theorem v58_at (X : A0) (b : Fin 4) (c : Fin 8) (s : Fin 4) (p : Fin 8192) (d : Fin 32) :
    val_main_v58 (F := Ideal) X a1 (ix5 b c s p d)
      = ((∑ q : Fin 8192, if p.val ≤ q.val then V X b.val c.val d (s.val * 16 + q.val / 512) (q.val % 512) else 0 : ℝ) : EReal) := by
  unfold val_main_v58 val_main_v57 val_main_v56
  rw [Host.reduceWindowAdd, Ideal.hostReduceWindowAdd_def, val_main_call4_call0_v0_apply, val_main_call4_call0_cst_apply, Ideal.ofBits_def,
    Ideal.ofBits_zero_f32]
  refine (HostReads.sum_to_end (by decide) _ _ b c s p d).trans ?_
  rw [Pix.coe_sum]
  refine Finset.sum_congr rfl fun q _ => ?_
  rw [unit_at h]
  split_ifs
  · rfl
  · rfl

/-- The pair sums of two segments. -/
theorem v59_at (X : A0) (b : Fin 4) (c : Fin 8) (i j : Fin 4) :
    val_main_v59 (F := Ideal) X a1 (ix4 b c i j) = (pairs X b.val c.val i.val j.val : EReal) := by
  unfold val_main_v59
  rw [Host.dotGeneral, Ideal.dotGeneral_apply, sum_contr2 _ 32 8192 rfl rfl rfl]
  unfold pairs
  rw [Pix.coe_sum]
  refine Finset.sum_congr rfl fun d _ => ?_
  unfold Seg.pairTerm
  rw [Pix.coe_sum]
  refine Finset.sum_congr rfl fun p _ => ?_
  rw [EReal.coe_mul]
  refine congrArg₂ (· * ·) ?_ ?_
  · refine Eq.trans (congrArg _ ?_) (unit_at h X b c i p d)
    funext a
    match a with
    | ⟨0, _⟩ => rfl
    | ⟨1, _⟩ => rfl
    | ⟨2, _⟩ => rfl
    | ⟨3, _⟩ => rfl
    | ⟨4, _⟩ => rfl
  · refine Eq.trans (congrArg _ ?_) (v58_at h X b c j p d)
    funext a
    match a with
    | ⟨0, _⟩ => rfl
    | ⟨1, _⟩ => rfl
    | ⟨2, _⟩ => rfl
    | ⟨3, _⟩ => rfl
    | ⟨4, _⟩ => rfl

/-- A pair's term: the pair mean plus the margin where the first segment comes before the second. -/
theorem v67_at (X : A0) (b : Fin 4) (c : Fin 8) (i j : Fin 4) : val_main_v67 (F := Ideal) X a1 (ix4 b c i j)
    = ((if i.val < j.val then pairs X b.val c.val i.val j.val * (1 / 33558528) - (-2) else 0 : ℝ) : EReal) := by
  rw [val_main_v67_apply, val_main_v62_apply, val_main_v60_apply, val_main_v61_apply, val_main_v66_apply, val_main_v64_apply, v59_at h,
    val_main_v63_apply, val_main_cst_14_apply, val_main_v65_apply, val_main_cst_15_apply, val_main_call5_v1_apply, val_main_call5_v0_apply,
    val_main_cst_16_apply, Ideal.ofBits_def, Ideal.ofBits_def, Ideal.ofBits_def, Ideal.ofBits_zero_f32, word_half_count, word_neg_two,
    Ideal.hostDivf_def, Ideal.subf_def, Ideal.div_coe (by norm_num)]
  show Scalar.select (IntOp.cmpi .slt (BitVec.ofNat 32 i.val) (BitVec.ofNat 32 j.val)) _ _ = _
  rw [WordCmp.cmpi_slt_ofNat (by omega) (by omega)]
  by_cases hij : i.val < j.val
  · rw [if_pos hij, EReal.coe_sub, EReal.coe_mul]
    simp only [hij, decide_true]
    rfl
  · rw [if_neg hij]
    simp only [hij, decide_false]
    rfl

/-- The second term of the angular loss. -/
theorem v68_at (X : A0) (i : S_.Idx) : val_main_v68 (F := Ideal) X a1 i
    = ((∑ b : Fin 4, ∑ c : Fin 8, ∑ i : Fin 4, ∑ j : Fin 4,
        if i.val < j.val then pairs X b.val c.val i.val j.val * (1 / 33558528) - (-2) else 0 : ℝ) : EReal) := by
  rw [val_main_v68_apply, val_main_cst_17_apply, Ideal.ofBits_def, Ideal.ofBits_zero_f32, zero_add]
  refine (Sums.sum4 (n0 := 4) (n1 := 8) (n2 := 4) (n3 := 4) (fun j => val_main_v67 (F := Ideal) X a1 j)).trans ?_
  simp only [Pix.coe_sum, v67_at h]

end Cert.RefLoss

end
-- ==== Proof.KerTail.lean ====
/- The host operations after the kernel: they turn the output array into the loss, and that is the reference's loss. -/
module

public import proofs.«01_k».proof.Proof.Lanes
public import proofs.«01_k».proof.Proof.RefErr
public import proofs.«01_k».proof.Proof.RefLoss
public import proofs.«01_k».proof.Proof.Gen.KernelIdeal.Launch
public import Idealize.ShloMosaic.Lib.IdealHost
public import Idealize.ShloMosaic.Lib.ValueIdx
public import Idealize.ShloMosaic.Lib.Pipeline.Value

@[expose] public section

noncomputable section

namespace Cert.KerTail

open Idealize.ShloMosaic Idealize.ShloMosaic.ValueIdx Cert.KernelIdeal Cert.KernelIdeal.Gen Cert.Spec Cert.Terms Cert.Lanes

/-- The mean radial loss, from the numbers per image and class. -/
def radial (e : FVec Ideal S4x8 .f32) : FVec Ideal S_ .f32 :=
  Host.divf (Host.reduceAdd (extractStridedSlice S7 ![1] (Host.divf (Host.reduceAdd e (constant S_ .f32 0x00000000#32) reducesTo_S4x8_S8_d0 h_S_)
    (broadcastInDim S8 ![] bcast_S_S8 (constant (F := Ideal) S_ .f32 0x48000000#32)) : FVec Ideal S8 .f32) slices_S8_S7_1) (constant S_ .f32 0x00000000#32) reducesTo_S7_S_d0 h_S_)
    (constant S_ .f32 0x40E00000#32)

/-- The angular loss, from the three numbers per image and class. -/
def angular (t d p : FVec Ideal S4x8 .f32) : FVec Ideal S_ .f32 :=
  addf (Host.reduceAdd (subf (broadcastInDim S4x8 ![] bcast_S_S4x8 (constant (F := Ideal) S_ .f32 0x40800000#32))
      (Host.divf (addf t d) (broadcastInDim S4x8 ![] bcast_S_S4x8 (constant (F := Ideal) S_ .f32 0x4C800400#32)))) (constant S_ .f32 0x00000000#32) reducesTo_S4x8_S_d0_1 h_S_)
    (subf (Host.divf (Host.reduceAdd p (constant S_ .f32 0x00000000#32) reducesTo_S4x8_S_d0_1 h_S_) (constant S_ .f32 0x4C000400#32)) (constant S_ .f32 0xC3C00000#32))

/-- The loss, from the output array. -/
def tail (Y : FVec Ideal S4x8x1x128 .f32) : FVec Ideal S_ .f32 :=
  addf (mulf (constant S_ .f32 0x3F000000#32) (radial (shapeCast S4x8 (extractStridedSlice S4x8x1x1 ![0, 0, 0, 0] Y slices_S4x8x1x128_S4x8x1x1_0_0_0_0) shapeCasts_S4x8x1x1_S4x8)))
    (mulf (constant S_ .f32 0x3F000000#32) (Host.divf (angular
      (shapeCast S4x8 (extractStridedSlice S4x8x1x1 ![0, 0, 0, 1] Y slices_S4x8x1x128_S4x8x1x1_0_0_0_1) shapeCasts_S4x8x1x1_S4x8)
      (shapeCast S4x8 (extractStridedSlice S4x8x1x1 ![0, 0, 0, 2] Y slices_S4x8x1x128_S4x8x1x1_0_0_0_2) shapeCasts_S4x8x1x1_S4x8)
      (shapeCast S4x8 (extractStridedSlice S4x8x1x1 ![0, 0, 0, 3] Y slices_S4x8x1x128_S4x8x1x1_0_0_0_3) shapeCasts_S4x8x1x1_S4x8)) (constant S_ .f32 0x43A00000#32)))

/-- One lane cut out of the output array. -/
theorem cut_at (X : A0) (k : ℕ) (hs : S4x8x1x128.Slices ![0, 0, 0, k] S4x8x1x1) (hc : S4x8x1x1.ShapeCasts S4x8) (hk : k < 128) (b : Fin 4) (c : Fin 8) :
    shapeCast S4x8 (extractStridedSlice S4x8x1x1 ![0, 0, 0, k] (lanes X) hs) hc (ix2 b c) = lane X b.val c.val k := by
  refine (shapeCast_apply _ hc (ix2 b c) (ix4 b c (0 : Fin 1) (0 : Fin 1)) ?_).trans ?_
  · rw [Shape.rowMajor_val_two, Shape.rowMajor_val_four]
    show ((b.val * 8 + c.val) * 1 + 0) * 1 + 0 = b.val * 8 + c.val
    omega
  · refine (extractStridedSlice_apply ![0, 0, 0, k] _ hs (ix4 b c (0 : Fin 1) (0 : Fin 1)) (ix4 b c (0 : Fin 1) (⟨k, hk⟩ : Fin 128)) fun a => ?_).trans rfl
    match a with
    | ⟨0, _⟩ => exact (Nat.zero_add _).symm
    | ⟨1, _⟩ => exact (Nat.zero_add _).symm
    | ⟨2, _⟩ => exact (Nat.zero_add _).symm
    | ⟨3, _⟩ => exact (Nat.add_zero _).symm

/-- The sum over images. -/
theorem over_images (h' : S4x8.ReducesTo [0] S8) (x : S4x8.Idx → EReal) (init : EReal) (c : Fin 8) :
    Ideal.hostReduceAdd h' x init (ix1 c) = init + ∑ b : Fin 4, x (ix2 b c) := by
  have h : S4x8.Reduces [0] S8 := by decide
  rw [Ideal.hostReduceAdd_single h' h x init (ix1 c)]
  refine congrArg _ (Finset.sum_congr rfl fun b _ => congrArg x (funext fun a => Fin.ext ?_))
  match a with
  | ⟨0, _⟩ => rfl
  | ⟨1, _⟩ => rfl

theorem radial_eq (X : A0) (e : FVec Ideal S4x8 .f32) (he : ∀ (b : Fin 4) (c : Fin 8), e (ix2 b c) = lane X b.val c.val 0) (i : S_.Idx) :
    radial e i = Ideal.div (∑ c : Fin 7, Ideal.div (total X (1 + c.val)) ((131072 : ℝ) : EReal)) (Ideal.ofBits .f32 0x40E00000#32) := by
  unfold radial
  show Ideal.div (Ideal.hostReduceAdd reducesTo_S7_S_d0 _ (Ideal.ofBits .f32 0x00000000#32) i) (Ideal.ofBits .f32 0x40E00000#32) = _
  refine congrArg (fun z => Ideal.div z (Ideal.ofBits .f32 0x40E00000#32)) ?_
  rw [Ideal.hostReduceAdd_total reducesTo_S7_S_d0 (fun b => b.elim0) _ _ i, Ideal.ofBits_zero_f32, zero_add]
  refine (HostReads.sum_idx1 (n := 7) _).trans (Finset.sum_congr rfl fun c _ => ?_)
  refine (extractStridedSlice_apply ![1] _ slices_S8_S7_1 (ix1 c) (ix1 (⟨1 + c.val, by omega⟩ : Fin 8)) fun a => ?_).trans ?_
  · match a with
    | ⟨0, _⟩ => rfl
  · show Ideal.div (Ideal.hostReduceAdd reducesTo_S4x8_S8_d0 e (Ideal.ofBits .f32 0x00000000#32) (ix1 (⟨1 + c.val, by omega⟩ : Fin 8))) (Ideal.ofBits .f32 0x48000000#32) = _
    rw [over_images, word_131072, Ideal.ofBits_zero_f32, zero_add]
    refine congrArg (fun z => Ideal.div z ((131072 : ℝ) : EReal)) ?_
    unfold total
    exact Finset.sum_congr rfl fun b _ => he b _

/-- The six pairs of one class. -/
theorem six (q : ℕ → ℕ → ℝ) (k : ℝ) : (∑ i : Fin 4, ∑ j : Fin 4, if i.val < j.val then q i.val j.val * k - (-2) else 0)
    = (∑ i : Fin 4, ∑ j : Fin 4, if i.val < j.val then q i.val j.val else 0) * k + 12 := by
  have e : ∀ i j : Fin 4, (if i.val < j.val then q i.val j.val * k - (-2) else 0)
      = (if i.val < j.val then q i.val j.val else 0) * k + (if i.val < j.val then 2 else 0) := fun i j => by
    by_cases hij : i.val < j.val
    · rw [if_pos hij, if_pos hij, if_pos hij]
      ring
    · rw [if_neg hij, if_neg hij, if_neg hij]
      ring
  simp only [e, Finset.sum_add_distrib, Finset.sum_mul]
  congr 1
  simp only [Fin.sum_univ_four]
  norm_num

/-- The two ways of adding up the angular loss. -/
theorem add_up (sq dg : ℕ → ℕ → ℕ → ℝ) (q : ℕ → ℕ → ℕ → ℕ → ℝ) :
    (∑ b : Fin 4, ∑ c : Fin 8, (4 - ((∑ s : Fin 4, sq b.val c.val s.val) + ∑ s : Fin 4, dg b.val c.val s.val) * (1 / 67117056)))
      + ((∑ b : Fin 4, ∑ c : Fin 8, ∑ i : Fin 4, ∑ j : Fin 4, if i.val < j.val then q b.val c.val i.val j.val else 0) * (1 / 33558528) - (-384))
    = (∑ b : Fin 4, ∑ c : Fin 8, ∑ s : Fin 4, (1 - (sq b.val c.val s.val + dg b.val c.val s.val) * (1 / 67117056)))
      + ∑ b : Fin 4, ∑ c : Fin 8, ∑ i : Fin 4, ∑ j : Fin 4, (if i.val < j.val then q b.val c.val i.val j.val * (1 / 33558528) - (-2) else 0 : ℝ) := by
  refine congrArg₂ (· + ·) (Finset.sum_congr rfl fun b _ => Finset.sum_congr rfl fun c _ => ?_) ?_
  · rw [← Finset.sum_add_distrib, Finset.sum_sub_distrib, ← Finset.sum_mul]
    norm_num
  · have e : ∀ (b : Fin 4) (c : Fin 8), (∑ i : Fin 4, ∑ j : Fin 4, (if i.val < j.val then q b.val c.val i.val j.val * (1 / 33558528) - (-2) else 0 : ℝ))
        = (∑ i : Fin 4, ∑ j : Fin 4, if i.val < j.val then q b.val c.val i.val j.val else 0) * (1 / 33558528) + 12 := fun b c => six (q b.val c.val) _
    simp only [e, Finset.sum_add_distrib, ← Finset.sum_mul]
    rw [sub_neg_eq_add]
    congr 1
    norm_num

theorem angular_eq (X : A0) (t d p : FVec Ideal S4x8 .f32) (ht : ∀ (b : Fin 4) (c : Fin 8), t (ix2 b c) = lane X b.val c.val 1)
    (hd : ∀ (b : Fin 4) (c : Fin 8), d (ix2 b c) = lane X b.val c.val 2) (hp : ∀ (b : Fin 4) (c : Fin 8), p (ix2 b c) = lane X b.val c.val 3) (i : S_.Idx) :
    angular t d p i = ((
      (∑ b : Fin 4, ∑ c : Fin 8, ∑ s : Fin 4, (1 - (segSq X b.val c.val s.val + diag X b.val c.val s.val) * (1 / 67117056)))
      + ∑ b : Fin 4, ∑ c : Fin 8, ∑ i : Fin 4, ∑ j : Fin 4, (if i.val < j.val then pairs X b.val c.val i.val j.val * (1 / 33558528) - (-2) else 0 : ℝ) : ℝ) : EReal) := by
  unfold angular
  show Ideal.hostReduceAdd reducesTo_S4x8_S_d0_1 (fun y => Ideal.ofBits .f32 0x40800000#32 - Ideal.div (t y + d y) (Ideal.ofBits .f32 0x4C800400#32)) (Ideal.ofBits .f32 0x00000000#32) i
    + (Ideal.div (Ideal.hostReduceAdd reducesTo_S4x8_S_d0_1 p (Ideal.ofBits .f32 0x00000000#32) i) (Ideal.ofBits .f32 0x4C000400#32) - Ideal.ofBits .f32 0xC3C00000#32) = _
  rw [Ideal.hostReduceAdd_total reducesTo_S4x8_S_d0_1 (fun b => b.elim0) _ _ i, Ideal.hostReduceAdd_total reducesTo_S4x8_S_d0_1 (fun b => b.elim0) _ _ i,
    Ideal.ofBits_zero_f32, zero_add, zero_add, word_four, word_count, word_half_count, word_neg_384]
  have e1 : (∑ y : S4x8.Idx, (((4 : ℝ) : EReal) - Ideal.div (t y + d y) ((67117056 : ℝ) : EReal)))
      = ((∑ b : Fin 4, ∑ c : Fin 8, (4 - ((∑ s : Fin 4, segSq X b.val c.val s.val) + ∑ s : Fin 4, diag X b.val c.val s.val) * (1 / 67117056)) : ℝ) : EReal) := by
    refine (sum_idx2 (n0 := 4) (n1 := 8) _).trans ?_
    simp only [Pix.coe_sum (s := Finset.univ)]
    refine Finset.sum_congr rfl fun b _ => Finset.sum_congr rfl fun c _ => ?_
    rw [ht, hd, Ideal.div_coe (by norm_num)]
    show _ - (((∑ s : Fin 4, segSq X b.val c.val s.val : ℝ) : EReal) + ((∑ s : Fin 4, diag X b.val c.val s.val : ℝ) : EReal)) * _ = _
    rw [← EReal.coe_add, ← EReal.coe_mul, ← EReal.coe_sub]
  have e2 : (∑ y : S4x8.Idx, p y : EReal)
      = ((∑ b : Fin 4, ∑ c : Fin 8, ∑ i : Fin 4, ∑ j : Fin 4, (if i.val < j.val then pairs X b.val c.val i.val j.val else 0 : ℝ) : ℝ) : EReal) := by
    refine (sum_idx2 (n0 := 4) (n1 := 8) _).trans ?_
    rw [Pix.coe_sum]
    refine Finset.sum_congr rfl fun b _ => ?_
    rw [Pix.coe_sum]
    exact Finset.sum_congr rfl fun c _ => hp b c
  rw [e1, e2, Ideal.div_coe (by norm_num), ← EReal.coe_mul, ← EReal.coe_sub, ← EReal.coe_add]
  exact congrArg _ (add_up (segSq X) (diag X) (pairs X))

open Cert.ReferenceIdeal.Read in
/-- The loss the host works out from the kernel's output array is the reference's. -/
theorem tail_eq [Cert.ReferenceIdeal.Facts] (X : A0) {a1 : Cert.Masks.A1} (h : Cert.Masks.Drawn a1) : tail (lanes X) = val_main_v73 (F := Ideal) X a1 := by
  funext i
  unfold tail
  rw [addf_apply, mulf_apply, mulf_apply, radial_eq X _ (cut_at X 0 _ _ (by omega)),
    val_main_v73_apply, val_main_v71_apply, val_main_v72_apply, val_main_v70_apply, val_main_v69_apply, RefErr.v35_at h, RefLoss.v55_at h, RefLoss.v68_at h]
  simp only [Ideal.addf_def, Ideal.mulf_def, Ideal.hostDivf_def]
  rw [← EReal.coe_add]
  refine congrArg₂ (fun p q : EReal => p + q) rfl (congrArg₂ (fun p q : EReal => p * q) rfl (congrArg₂ (fun p q : EReal => Ideal.div p q) ?_ rfl))
  exact angular_eq X _ _ _ (cut_at X 1 _ _ (by omega)) (cut_at X 2 _ _ (by omega)) (cut_at X 3 _ _ (by omega)) i

end Cert.KerTail

end
-- ==== Proof.KerRun.lean ====
/- A run of the kernel program: its result is the loss worked out from the output array, and its arguments are unchanged. -/
module

public import proofs.«01_k».proof.Proof.KerArr
public import proofs.«01_k».proof.Proof.KerTail

@[expose] public section

noncomputable section

namespace Cert.KerRun

open Idealize.ShloMosaic Idealize.ShloMosaic.TcCoe Idealize.SL.Sem Cert.KernelIdeal Cert.KernelIdeal.Gen Cert.Lanes Cert.KerTail

variable (m : (ℓ : Loc nD τ sig) → Buf (Elt Ideal) ℓ) (ρ : Dev nD → PrngReg)

/-- The host operations after the kernel, read from any memory whose output array is `Y`. -/
theorem after_tail (W : Valuation τ sig (Elt Ideal)) (Y : FVec Ideal S4x8x1x128 .f32) (hY : W (Proc.devRef .tc main_v24) = Y) :
    StableHlo.after (List.flatten [hostOps1 (F := Ideal)]) W (Proc.devRef .tc main_v52) = tail Y := by
  subst hY
  simp only [hostOps1, List.flatten_cons, List.flatten_nil, List.append_nil, List.cons_append, List.nil_append]
  after_reads_simp
  rfl

theorem result_eq (c : Dev nD) : Pipeline.afterTail₀ cfgs (dats m) 0 (V0 m) [hostOps1] c main_v52
    = tail (lanes (m ((c : Thread nD τ).loc main_arg0))) := by
  unfold Pipeline.afterTail₀
  refine after_tail _ _ ?_
  exact (Pipeline.withArrays_arr spec0 (by decide) c (V0 m c) _ 3).trans (KerArr.arr m c)

theorem run : θ_run defs (onTc (τ := τ) (main (F := Ideal))) ⟨m, fun _ => 0, ρ⟩ (fun r => ∀ c : Dev nD,
      r.2.mem ((c.tc : Thread nD τ).loc main_v52) = tail (lanes (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2 c).2 main_v52 (Pipeline.mem_restRefs_of main_v52 (by decide) (by decide))).trans (result_eq m c), h.1 c⟩)
    (θ_run_and (unchanged m ρ) (run_main m ρ))

end Cert.KerRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KerRun
public import Idealize.ShloMosaic.Adequacy
public import Idealize.ShloMosaic.Init

@[expose] public section

noncomputable section

namespace Cert.Proof

open Idealize.ShloMosaic Idealize.ShloMosaic.TcCoe Idealize.SL.Sem

/-- The shape facts of the precondition. -/
theorem pre_facts : Cert.Pre_masks_as_drawn.Facts :=
  ⟨by decide, by decide, by decide, by decide⟩

/-- A run of the reference leaves its arguments and every counter as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The idealized kernel's loss is the reference's, on masks as they are drawn. -/
theorem algebraic : Cert.algebraic_KernelIdeal_ReferenceIdeal_pre_masks_as_drawn
    (hKernelIdeal := Cert.KernelIdeal.Gen.facts) (hReferenceIdeal := Cert.ReferenceIdeal.Gen.facts) (hPre_masks_as_drawn := pre_facts) := by
  have : Cert.Pre_masks_as_drawn.Facts := pre_facts
  intro m g m' g' hpre hargs
  refine ⟨fun c => Cert.KerTail.tail (Cert.Lanes.lanes (m ((c.tc : Thread Cert.KernelIdeal.nD Cert.KernelIdeal.τ).loc Cert.KernelIdeal.main_arg0))), Cert.KerRun.run m g, ?_⟩
  refine (θ_run Cert.ReferenceIdeal.defs _ _).mono (fun r h c => ⟨(h c).1.trans ?_, (h c).2⟩) (Cert.ReferenceIdeal.Value.run (F := Ideal) m' g')
  have e0 := (hargs c).1
  have e1 := (hargs c).2.1
  have hd := Cert.Masks.drawn _ _ _ (hpre c)
  refine (Cert.ReferenceIdeal.Read.val_main_v73_eq m' c).trans ?_
  rw [e0, e1]
  exact (Cert.KerTail.tail_eq _ hd).symm

theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  fun m g _ => reference_frame m g, fun m g _ => reference_frame m g, trivial, algebraic⟩

end Cert.Proof

end
